-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_above [hPre_gate_above : Cert.Pre_gate_above.Facts] (m : (ℓ : Loc Cert.KernelIdeal.nD Cert.KernelIdeal.τ Cert.KernelIdeal.sig) → Buf (Elt Ideal) ℓ) : Prop :=
  ∀ c : Dev Cert.KernelIdeal.nD,
    (Cert.Pre_gate_above.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_above [hPre_gate_above : Cert.Pre_gate_above.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_above.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_conv_gate_above [hPre_conv_gate_above : Cert.Pre_conv_gate_above.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_conv_gate_above.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_conv_gate_above [hPre_conv_gate_above : Cert.Pre_conv_gate_above.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_conv_gate_above.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gate_above [hKernelIdeal : Cert.KernelIdeal.Facts] [hPre_gate_above : Cert.Pre_gate_above.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_above m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gate_above [hReferenceIdeal : Cert.ReferenceIdeal.Facts] [hPre_gate_above : Cert.Pre_gate_above.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_above m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_conv_gate_above [hKernel2Ideal : Cert.Kernel2Ideal.Facts] [hPre_conv_gate_above : Cert.Pre_conv_gate_above.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_conv_gate_above m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_conv_gate_above [hReference2Ideal : Cert.Reference2Ideal.Facts] [hPre_conv_gate_above : Cert.Pre_conv_gate_above.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_conv_gate_above m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_gate_above [hKernelIdeal : Cert.KernelIdeal.Facts] [hReferenceIdeal : Cert.ReferenceIdeal.Facts] [hPre_gate_above : Cert.Pre_gate_above.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_above m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)) (v2 : (c : Dev Cert.KernelIdeal.nD) → Buf (Elt Ideal) ((c.tc : Thread Cert.KernelIdeal.nD Cert.KernelIdeal.τ).loc Cert.KernelIdeal.main_v68_2)) (v3 : (c : Dev Cert.KernelIdeal.nD) → Buf (Elt Ideal) ((c.tc : Thread Cert.KernelIdeal.nD Cert.KernelIdeal.τ).loc Cert.KernelIdeal.main_v68_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_v68_2) = v2 c
          ∧ r.2.mem ((c.tc : Thread Cert.KernelIdeal.nD Cert.KernelIdeal.τ).loc Cert.KernelIdeal.main_v68_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v271) = v0 c
          ∧ r.2.mem ((c.tc : Thread Cert.ReferenceIdeal.nD Cert.ReferenceIdeal.τ).loc Cert.ReferenceIdeal.main_v273) = v1 c
          ∧ r.2.mem ((c.tc : Thread Cert.ReferenceIdeal.nD Cert.ReferenceIdeal.τ).loc Cert.ReferenceIdeal.main_v275) = v2 c
          ∧ r.2.mem ((c.tc : Thread Cert.ReferenceIdeal.nD Cert.ReferenceIdeal.τ).loc Cert.ReferenceIdeal.main_v277) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_conv_gate_above [hKernel2Ideal : Cert.Kernel2Ideal.Facts] [hReference2Ideal : Cert.Reference2Ideal.Facts] [hPre_conv_gate_above : Cert.Pre_conv_gate_above.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_conv_gate_above m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_gate_above : Cert.Pre_gate_above.Facts) (hPre_conv_gate_above : Cert.Pre_conv_gate_above.Facts),
    quiescent_Kernel (hKernel := hKernel)
    ∧ quiescent_KernelIdeal (hKernelIdeal := hKernelIdeal)
    ∧ quiescent_KernelIdeal_pre_gate_above (hKernelIdeal := hKernelIdeal) (hPre_gate_above := hPre_gate_above)
    ∧ quiescent_ReferenceIdeal (hReferenceIdeal := hReferenceIdeal)
    ∧ quiescent_ReferenceIdeal_pre_gate_above (hReferenceIdeal := hReferenceIdeal) (hPre_gate_above := hPre_gate_above)
    ∧ quiescent_Kernel2 (hKernel2 := hKernel2)
    ∧ quiescent_Kernel2Ideal (hKernel2Ideal := hKernel2Ideal)
    ∧ quiescent_Kernel2Ideal_pre_conv_gate_above (hKernel2Ideal := hKernel2Ideal) (hPre_conv_gate_above := hPre_conv_gate_above)
    ∧ quiescent_Reference2Ideal (hReference2Ideal := hReference2Ideal)
    ∧ quiescent_Reference2Ideal_pre_conv_gate_above (hReference2Ideal := hReference2Ideal) (hPre_conv_gate_above := hPre_conv_gate_above)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_gate_above (hKernelIdeal := hKernelIdeal) (hReferenceIdeal := hReferenceIdeal) (hPre_gate_above := hPre_gate_above)
    ∧ preserves_Kernel2_Kernel2Ideal
    ∧ algebraic_Kernel2Ideal_Reference2Ideal_pre_conv_gate_above (hKernel2Ideal := hKernel2Ideal) (hReference2Ideal := hReference2Ideal) (hPre_conv_gate_above := hPre_conv_gate_above)
    ∧ preserves_Kernel3_Kernel3Ideal
    ∧ algebraic_Kernel3Ideal_Reference3Ideal (hKernel3Ideal := hKernel3Ideal) (hReference3Ideal := hReference3Ideal)
-- ==== Pre_conv_gate_above.lean ====
abbrev S4x2048x2048 : Shape := ⟨3, ![4, 2048, 2048]⟩
abbrev S4x12288 : Shape := ⟨2, ![4, 12288]⟩
abbrev S1x2048 : Shape := ⟨2, ![1, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S4x2048 : Shape := ⟨2, ![4, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S4x1x2048 : Shape := ⟨3, ![4, 1, 2048]⟩
abbrev S2048x11264 : Shape := ⟨2, ![2048, 11264]⟩
abbrev S4x2048x11264 : Shape := ⟨3, ![4, 2048, 11264]⟩
abbrev S3x11264 : Shape := ⟨2, ![3, 11264]⟩
abbrev S11264 : Shape := ⟨1, ![11264]⟩
abbrev S4x2050x11264 : Shape := ⟨3, ![4, 2050, 11264]⟩
abbrev S1x1x11264 : Shape := ⟨3, ![1, 1, 11264]⟩
abbrev S4x2048x5632 : Shape := ⟨3, ![4, 2048, 5632]⟩

class Facts : Prop where
  slices_S4x12288_S4x2048_0_0 : S4x12288.Slices ![0, 0] S4x2048
  slices_S4x12288_S4x2048_0_2048 : S4x12288.Slices ![0, 2048] S4x2048
  slices_S4x12288_S4x2048_0_4096 : S4x12288.Slices ![0, 4096] S4x2048
  slices_S4x12288_S4x2048_0_6144 : S4x12288.Slices ![0, 6144] S4x2048
  slices_S4x12288_S4x2048_0_8192 : S4x12288.Slices ![0, 8192] S4x2048
  slices_S4x12288_S4x2048_0_10240 : S4x12288.Slices ![0, 10240] S4x2048
  shapeCasts_S1x2048_S2048 : S1x2048.ShapeCasts S2048
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S4x2048_S4x1x2048_0_2 : S4x2048.BroadcastsInDim S4x1x2048 (![0, 2] : Fin 2 → Fin S4x1x2048.rank)
  bcast_S_S4x1x2048 : S_.BroadcastsInDim S4x1x2048 (![] : Fin 0 → Fin S4x1x2048.rank)
  bcast_S4x1x2048_S4x2048x2048_0_1_2 : S4x1x2048.BroadcastsInDim S4x2048x2048 (![0, 1, 2] : Fin 3 → Fin S4x2048x2048.rank)
  shapeCasts_S1x2048x11264_S2048x11264 : S1x2048x11264.ShapeCasts S2048x11264
  shapeCasts_S1x3x11264_S3x11264 : S1x3x11264.ShapeCasts S3x11264
  shapeCasts_S1x11264_S11264 : S1x11264.ShapeCasts S11264
  pads_S4x2048x11264_S4x2050x11264_000_200_000 : S4x2048x11264.Pads (![0, 2, 0] : Fin 3 → Nat) ![0, 0, 0] ![0, 0, 0] S4x2050x11264
  slices_S4x2050x11264_S4x2048x11264_0_0_0 : S4x2050x11264.Slices ![0, 0, 0] S4x2048x11264
  slices_S3x11264_S1x11264_0_0 : S3x11264.Slices ![0, 0] S1x11264
  bcast_S11264_S1x1x11264_2 : S11264.BroadcastsInDim S1x1x11264 (![2] : Fin 1 → Fin S1x1x11264.rank)
  bcast_S1x1x11264_S4x2048x11264_0_1_2 : S1x1x11264.BroadcastsInDim S4x2048x11264 (![0, 1, 2] : Fin 3 → Fin S4x2048x11264.rank)
  slices_S4x2050x11264_S4x2048x11264_0_1_0 : S4x2050x11264.Slices ![0, 1, 0] S4x2048x11264
  slices_S3x11264_S1x11264_1_0 : S3x11264.Slices ![1, 0] S1x11264
  slices_S4x2050x11264_S4x2048x11264_0_2_0 : S4x2050x11264.Slices ![0, 2, 0] S4x2048x11264
  slices_S3x11264_S1x11264_2_0 : S3x11264.Slices ![2, 0] S1x11264
  slices_S4x2048x11264_S4x2048x5632_0_0_0 : S4x2048x11264.Slices ![0, 0, 0] S4x2048x5632
  slices_S4x2048x11264_S4x2048x5632_0_0_5632 : S4x2048x11264.Slices ![0, 0, 5632] S4x2048x5632
  bcast_S_S4x2048x5632 : S_.BroadcastsInDim S4x2048x5632 (![] : Fin 0 → Fin S4x2048x5632.rank)
  dot_S4x2048x2048_S2048x11264_S4x2048x11264_2_0_01_1_n_n_wf : DotDims.WF S4x2048x2048 S2048x11264 S4x2048x11264 [2] [0] [0, 1] [1] [] []

variable [Facts]

def dot_S4x2048x2048_S2048x11264_S4x2048x11264_2_0_01_1_n_n : DotDims S4x2048x2048 S2048x11264 S4x2048x11264 where
  lhsContracting := [2]
  rhsContracting := [0]
  lhsNonContracting := [0, 1]
  rhsNonContracting := [1]
  lhsBatch := []
  rhsBatch := []
  wf := dot_S4x2048x2048_S2048x11264_S4x2048x11264_2_0_01_1_n_n_wf
def fn_pad {F : FTy → Type} [FloatOps F] (arg0 : FVec F S4x2048x11264 .f32) (arg1 : IVec S_ 32) : FVec F S4x2050x11264 .f32 :=
  let v0 : FVec F S_ .f32 := sitofp .f32 arg1
  let v1 : FVec F S4x2050x11264 .f32 := (fun x v => pad S4x2050x11264 ![0, 2, 0] ![0, 0, 0] ![0, 0, 0] x v pads_S4x2048x11264_S4x2050x11264_000_200_000 h_S_) arg0 v0
  v1

def fn_part2 {F : FTy → Type} [FloatOps F] (main_v30 : FVec F S3x11264 .f32) (main_v31 : FVec F S11264 .f32) (main_v32 : FVec F S4x2050x11264 .f32) (main_v38 : FVec F S4x2048x11264 .f32) (main_v39 : FVec F S4x2048x11264 .f32) (main_v42 : FVec F S1x1x11264 .f32) : IVec S4x2048x5632 1 :=
  let main_v43 : FVec F S4x2048x11264 .f32 := broadcastInDim S4x2048x11264 ![0, 1, 2] bcast_S1x1x11264_S4x2048x11264_0_1_2 main_v42
  let main_v44 : FVec F S4x2048x11264 .f32 := mulf main_v39 main_v43
  let main_v45 : FVec F S4x2048x11264 .f32 := addf main_v38 main_v44
  let main_v46 : FVec F S4x2048x11264 .f32 := (extractStridedSlice S4x2048x11264 ![0, 2, 0] · slices_S4x2050x11264_S4x2048x11264_0_2_0) main_v32
  let main_v47 : FVec F S1x11264 .f32 := (extractStridedSlice S1x11264 ![2, 0] · slices_S3x11264_S1x11264_2_0) main_v30
  let main_v48 : FVec F S11264 .f32 := shapeCast S11264 main_v47 shapeCasts_S1x11264_S11264
  let main_v49 : FVec F S1x1x11264 .f32 := broadcastInDim S1x1x11264 ![2] bcast_S11264_S1x1x11264_2 main_v48
  let main_v50 : FVec F S4x2048x11264 .f32 := broadcastInDim S4x2048x11264 ![0, 1, 2] bcast_S1x1x11264_S4x2048x11264_0_1_2 main_v49
  let main_v51 : FVec F S4x2048x11264 .f32 := mulf main_v46 main_v50
  let main_v52 : FVec F S4x2048x11264 .f32 := addf main_v45 main_v51
  let main_v53 : FVec F S1x1x11264 .f32 := broadcastInDim S1x1x11264 ![2] bcast_S11264_S1x1x11264_2 main_v31
  let main_v54 : FVec F S4x2048x11264 .f32 := broadcastInDim S4x2048x11264 ![0, 1, 2] bcast_S1x1x11264_S4x2048x11264_0_1_2 main_v53
  let main_v55 : FVec F S4x2048x11264 .f32 := addf main_v52 main_v54
  let main_v56 : FVec F S4x2048x5632 .f32 := (extractStridedSlice S4x2048x5632 ![0, 0, 0] · slices_S4x2048x11264_S4x2048x5632_0_0_0) main_v55
  let main_v57 : FVec F S4x2048x5632 .f32 := (extractStridedSlice S4x2048x5632 ![0, 0, 5632] · slices_S4x2048x11264_S4x2048x5632_0_0_5632) main_v55
  let main_cst_3 : FVec F S_ .f32 := constant S_ .f32 0xFF800000#32
  let main_v58 : FVec F S4x2048x5632 .f32 := broadcastInDim S4x2048x5632 ![] bcast_S_S4x2048x5632 main_cst_3
  let main_v59 : IVec S4x2048x5632 1 := cmpf .ogt main_v57 main_v58
  main_v59

def fn_part1 {F : FTy → Type} [FloatOps F] (main_arg3 : FVec F S1x2048x11264 .f32) (main_arg4 : FVec F S1x3x11264 .f32) (main_arg5 : FVec F S1x11264 .f32) (main_v3 : FVec F S4x2048 .f32) (main_v19 : FVec F S4x2048x2048 .f32) (main_v20 : FVec F S4x1x2048 .f32) : IVec S4x2048x5632 1 :=
  let main_cst_2 : FVec F S_ .f32 := constant S_ .f32 0x3F800000#32
  let main_v21 : FVec F S4x1x2048 .f32 := broadcastInDim S4x1x2048 ![] bcast_S_S4x1x2048 main_cst_2
  let main_v22 : FVec F S4x1x2048 .f32 := addf main_v21 main_v20
  let main_v23 : FVec F S4x2048x2048 .f32 := broadcastInDim S4x2048x2048 ![0, 1, 2] bcast_S4x1x2048_S4x2048x2048_0_1_2 main_v22
  let main_v24 : FVec F S4x2048x2048 .f32 := mulf main_v19 main_v23
  let main_v25 : FVec F S4x1x2048 .f32 := broadcastInDim S4x1x2048 ![0, 2] bcast_S4x2048_S4x1x2048_0_2 main_v3
  let main_v26 : FVec F S4x2048x2048 .f32 := broadcastInDim S4x2048x2048 ![0, 1, 2] bcast_S4x1x2048_S4x2048x2048_0_1_2 main_v25
  let main_v27 : FVec F S4x2048x2048 .f32 := addf main_v24 main_v26
  let main_v28 : FVec F S2048x11264 .f32 := shapeCast S2048x11264 main_arg3 shapeCasts_S1x2048x11264_S2048x11264
  let main_v29 : FVec F S4x2048x11264 .f32 := (fun l r => Host.dotGeneral dot_S4x2048x2048_S2048x11264_S4x2048x11264_2_0_01_1_n_n none l r) main_v27 main_v28
  let main_v30 : FVec F S3x11264 .f32 := shapeCast S3x11264 main_arg4 shapeCasts_S1x3x11264_S3x11264
  let main_v31 : FVec F S11264 .f32 := shapeCast S11264 main_arg5 shapeCasts_S1x11264_S11264
  let main_c : IVec S_ 32 := constantI S_ 32 0#32
  let main_v32 : FVec F S4x2050x11264 .f32 := fn_pad (F := F) main_v29 main_c
  let main_v33 : FVec F S4x2048x11264 .f32 := (extractStridedSlice S4x2048x11264 ![0, 0, 0] · slices_S4x2050x11264_S4x2048x11264_0_0_0) main_v32
  let main_v34 : FVec F S1x11264 .f32 := (extractStridedSlice S1x11264 ![0, 0] · slices_S3x11264_S1x11264_0_0) main_v30
  let main_v35 : FVec F S11264 .f32 := shapeCast S11264 main_v34 shapeCasts_S1x11264_S11264
  let main_v36 : FVec F S1x1x11264 .f32 := broadcastInDim S1x1x11264 ![2] bcast_S11264_S1x1x11264_2 main_v35
  let main_v37 : FVec F S4x2048x11264 .f32 := broadcastInDim S4x2048x11264 ![0, 1, 2] bcast_S1x1x11264_S4x2048x11264_0_1_2 main_v36
  let main_v38 : FVec F S4x2048x11264 .f32 := mulf main_v33 main_v37
  let main_v39 : FVec F S4x2048x11264 .f32 := (extractStridedSlice S4x2048x11264 ![0, 1, 0] · slices_S4x2050x11264_S4x2048x11264_0_1_0) main_v32
  let main_v40 : FVec F S1x11264 .f32 := (extractStridedSlice S1x11264 ![1, 0] · slices_S3x11264_S1x11264_1_0) main_v30
  let main_v41 : FVec F S11264 .f32 := shapeCast S11264 main_v40 shapeCasts_S1x11264_S11264
  let main_v42 : FVec F S1x1x11264 .f32 := broadcastInDim S1x1x11264 ![2] bcast_S11264_S1x1x11264_2 main_v41
  fn_part2 (F := F) main_v30 main_v31 main_v32 main_v38 main_v39 main_v42

def fn {F : FTy → Type} [FloatOps F] (main_arg0 : FVec F S4x2048x2048 .f32) (main_arg1 : FVec F S4x12288 .f32) (main_arg2 : FVec F S1x2048 .f32) (main_arg3 : FVec F S1x2048x11264 .f32) (main_arg4 : FVec F S1x3x11264 .f32) (main_arg5 : FVec F S1x11264 .f32) (main_arg6 : FVec F S1x5632x2048 .f32) : IVec S4x2048x5632 1 :=
  let main_v0 : FVec F S4x2048 .f32 := (extractStridedSlice S4x2048 ![0, 0] · slices_S4x12288_S4x2048_0_0) main_arg1
  let main_v1 : FVec F S4x2048 .f32 := (extractStridedSlice S4x2048 ![0, 2048] · slices_S4x12288_S4x2048_0_2048) main_arg1
  let main_v2 : FVec F S4x2048 .f32 := (extractStridedSlice S4x2048 ![0, 4096] · slices_S4x12288_S4x2048_0_4096) main_arg1
  let main_v3 : FVec F S4x2048 .f32 := (extractStridedSlice S4x2048 ![0, 6144] · slices_S4x12288_S4x2048_0_6144) main_arg1
  let main_v4 : FVec F S4x2048 .f32 := (extractStridedSlice S4x2048 ![0, 8192] · slices_S4x12288_S4x2048_0_8192) main_arg1
  let main_v5 : FVec F S4x2048 .f32 := (extractStridedSlice S4x2048 ![0, 10240] · slices_S4x12288_S4x2048_0_10240) main_arg1
  let main_v6 : FVec F S2048 .f32 := shapeCast S2048 main_arg2 shapeCasts_S1x2048_S2048
  let main_v7 : FVec F S4x2048x2048 .f32 := mulf main_arg0 main_arg0
  let main_cst : FVec F S_ .f32 := constant S_ .f32 0x00000000#32
  let main_v8 : FVec F S4x2048 .f32 := (fun x v => Host.reduceAdd x v reducesTo_S4x2048x2048_S4x2048_d2 h_S_) main_v7 main_cst
  let main_v9 : FVec F S4x2048x1 .f32 := broadcastInDim S4x2048x1 ![0, 1] bcast_S4x2048_S4x2048x1_0_1 main_v8
  let main_cst_0 : FVec F S_ .f32 := constant S_ .f32 0x45000000#32
  let main_v10 : FVec F S4x2048x1 .f32 := broadcastInDim S4x2048x1 ![] bcast_S_S4x2048x1 main_cst_0
  let main_v11 : FVec F S4x2048x1 .f32 := Host.divf main_v9 main_v10
  let main_cst_1 : FVec F S_ .f32 := constant S_ .f32 0x358637BD#32
  let main_v12 : FVec F S4x2048x1 .f32 := broadcastInDim S4x2048x1 ![] bcast_S_S4x2048x1 main_cst_1
  let main_v13 : FVec F S4x2048x1 .f32 := addf main_v11 main_v12
  let main_v14 : FVec F S4x2048x1 .f32 := Host.rsqrt main_v13
  let main_v15 : FVec F S4x2048x2048 .f32 := broadcastInDim S4x2048x2048 ![0, 1, 2] bcast_S4x2048x1_S4x2048x2048_0_1_2 main_v14
  let main_v16 : FVec F S4x2048x2048 .f32 := mulf main_arg0 main_v15
  let main_v17 : FVec F S1x1x2048 .f32 := broadcastInDim S1x1x2048 ![2] bcast_S2048_S1x1x2048_2 main_v6
  let main_v18 : FVec F S4x2048x2048 .f32 := broadcastInDim S4x2048x2048 ![0, 1, 2] bcast_S1x1x2048_S4x2048x2048_0_1_2 main_v17
  let main_v19 : FVec F S4x2048x2048 .f32 := mulf main_v16 main_v18
  let main_v20 : FVec F S4x1x2048 .f32 := broadcastInDim S4x1x2048 ![0, 2] bcast_S4x2048_S4x1x2048_0_2 main_v4
  fn_part1 (F := F) main_arg3 main_arg4 main_arg5 main_v3 main_v19 main_v20
-- ==== Pre_gate_above.lean ====
abbrev S4x2048x13312 : Shape := ⟨3, ![4, 2048, 13312]⟩
abbrev S1x2048 : Shape := ⟨2, ![1, 2048]⟩
abbrev S1x1024x2048 : Shape := ⟨3, ![1, 1024, 2048]⟩
abbrev S1x2048x2048 : Shape := ⟨3, ![1, 2048, 2048]⟩
abbrev S4x2048x2048 : Shape := ⟨3, ![4, 2048, 2048]⟩
abbrev S_ : Shape := ⟨0, ![]⟩

class Facts : Prop where
  slices_S4x2048x13312_S4x2048x2048_0_0_7168 : S4x2048x13312.Slices ![0, 0, 7168] S4x2048x2048
  bcast_S_S4x2048x2048 : S_.BroadcastsInDim S4x2048x2048 (![] : Fin 0 → Fin S4x2048x2048.rank)

variable [Facts]

def fn {F : FTy → Type} [FloatOps F] (main_arg0 : FVec F S4x2048x13312 .bf16) (main_arg1 : FVec F S1x2048 .f32) (main_arg2 : FVec F S1x1024x2048 .f32) (main_arg3 : FVec F S1x2048x2048 .f32) (main_arg4 : FVec F S1x2048x2048 .f32) : IVec S4x2048x2048 1 :=
  let main_v0 : FVec F S4x2048x2048 .bf16 := (extractStridedSlice S4x2048x2048 ![0, 0, 7168] · slices_S4x2048x13312_S4x2048x2048_0_0_7168) main_arg0
  let main_cst : FVec F S_ .bf16 := constant S_ .bf16 0xFF80#16
  let main_v1 : FVec F S4x2048x2048 .bf16 := broadcastInDim S4x2048x2048 ![] bcast_S_S4x2048x2048 main_cst
  let main_v2 : IVec S4x2048x2048 1 := cmpf .ogt main_v0 main_v1
  main_v2
-- ==== Kernel.lean ====
abbrev S4x2048x13312 : Shape := ⟨3, ![4, 2048, 13312]⟩
abbrev S1x2048 : Shape := ⟨2, ![1, 2048]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S4x2048x2048 : Shape := ⟨3, ![4, 2048, 2048]⟩
abbrev S1x2048x128 : Shape := ⟨3, ![1, 2048, 128]⟩
abbrev S1x2048x256 : Shape := ⟨3, ![1, 2048, 256]⟩
abbrev S1x256 : Shape := ⟨2, ![1, 256]⟩
abbrev S32x2048 : Shape := ⟨2, ![32, 2048]⟩
abbrev S64x2048 : Shape := ⟨2, ![64, 2048]⟩
abbrev S2048x256 : Shape := ⟨2, ![2048, 256]⟩
abbrev S16x128x256 : Shape := ⟨3, ![16, 128, 256]⟩
abbrev S1 : Shape := ⟨1, ![1]⟩
abbrev S1x128x256 : Shape := ⟨3, ![1, 128, 256]⟩
abbrev S128x256 : Shape := ⟨2, ![128, 256]⟩

abbrev nBuf : Space → Nat
  | .hbm => 90
  | .vmem => 36
  | .smem => 1
  | _ => 0

abbrev bufTy : (tb : Table) → Fin (tcTables nBuf tb) → BufTy
  | .hbm, ⟨0, _⟩ => ⟨S4x2048x13312, .bf16⟩
  | .hbm, ⟨1, _⟩ => ⟨S1x2048, .f32⟩
  | .hbm, ⟨2, _⟩ => ⟨S1x1024x2048, .f32⟩
  | .hbm, ⟨3, _⟩ => ⟨S1x2048x2048, .f32⟩
  | .hbm, ⟨4, _⟩ => ⟨S1x2048x2048, .f32⟩
  | .hbm, ⟨5, _⟩ => ⟨S1024x2048, .f32⟩
  | .hbm, ⟨6, _⟩ => ⟨S2048x2048, .f32⟩
  | .hbm, ⟨7, _⟩ => ⟨S2048x2048, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S2048, .f32⟩
  | .hbm, ⟨17, _⟩ => ⟨S2048x1, .f32⟩
  | .hbm, ⟨18, _⟩ => ⟨S1x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x128, .f32⟩
  | .hbm, ⟨25, _⟩ => ⟨S2048x64, .f32⟩
  | .hbm, ⟨26, _⟩ => ⟨S2048x128, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S128, .f32⟩
  | .hbm, ⟨39, _⟩ => ⟨S128x1, .f32⟩
  | .hbm, ⟨40, _⟩ => ⟨S1x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S8x1x1, .f32⟩
  | .hbm, ⟨45, _⟩ => ⟨S_, .f32⟩
  | .hbm, ⟨46, _⟩ => ⟨S128x128, .f32⟩
  | .hbm, ⟨47, _⟩ => ⟨S128x128, .i1⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S1x128x128, .f32⟩
  | .hbm, ⟨52, _⟩ => ⟨S8x128x128, .f32⟩
  | .hbm, ⟨53, _⟩ => ⟨S8x128x128, .f32⟩
  | .hbm, ⟨54, _⟩ => ⟨S8x128x128, .f32⟩
  | .hbm, ⟨55, _⟩ => ⟨S8x128x128, .f32⟩
  | .hbm, ⟨56, _⟩ => ⟨S_, .f32⟩
  | .hbm, ⟨57, _⟩ => ⟨S8x128x128, .i1⟩
  | .hbm, ⟨58, _⟩ => ⟨S8x128x128, .f32⟩
  | .hbm, ⟨59, _⟩ => ⟨S8x128x128, .f32⟩
  | .hbm, ⟨60, _⟩ => ⟨S8x1, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S8x128, .f32⟩
  | .hbm, ⟨66, _⟩ => ⟨S8x128, .f32⟩
  | .hbm, ⟨67, _⟩ => ⟨S8x128, .f32⟩
  | .hbm, ⟨68, _⟩ => ⟨S8x128, .f32⟩
  | .hbm, ⟨69, _⟩ => ⟨S8x1, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S8x128, .f32⟩
  | .hbm, ⟨75, _⟩ => ⟨S8x128, .f32⟩
  | .hbm, ⟨76, _⟩ => ⟨S8x128, .f32⟩
  | .hbm, ⟨77, _⟩ => ⟨S8x128, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S8, .f32⟩
  | .hbm, ⟨82, _⟩ => ⟨S8x128x1, .f32⟩
  | .hbm, ⟨83, _⟩ => ⟨S8x128x128, .f32⟩
  | .hbm, ⟨84, _⟩ => ⟨S8x128x1, .f32⟩
  | .hbm, ⟨85, _⟩ => ⟨S8x128x128, .f32⟩
  | .hbm, ⟨86, _⟩ => ⟨S4x2048x2048, .bf16⟩
  | .hbm, ⟨87, _⟩ => ⟨S1024x2048, .bf16⟩
  | .hbm, ⟨88, _⟩ => ⟨S2048x2048, .bf16⟩
  | .hbm, ⟨89, _⟩ => ⟨S2048x2048, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S2048x128, .f32⟩
  | .local _ .vmem, ⟨9, _⟩ => ⟨S2048x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x256, .f32⟩
  | .local _ .vmem, ⟨17, _⟩ => ⟨S1x256, .f32⟩
  | .local _ .vmem, ⟨18, _⟩ => ⟨S32x2048, .f32⟩
  | .local _ .vmem, ⟨19, _⟩ => ⟨S32x2048, .f32⟩
  | .local _ .vmem, ⟨20, _⟩ => ⟨S64x2048, .f32⟩
  | .local _ .vmem, ⟨21, _⟩ => ⟨S64x2048, .f32⟩
  | .local _ .vmem, ⟨22, _⟩ => ⟨S64x2048, .f32⟩
  | .local _ .vmem, ⟨23, _⟩ => ⟨S64x2048, .f32⟩
  | .local _ .vmem, ⟨24, _⟩ => ⟨S1x2048x256, .bf16⟩
  | .local _ .vmem, ⟨25, _⟩ => ⟨S1x2048x256, .bf16⟩
  | .local _ .vmem, ⟨26, _⟩ => ⟨S32x2048, .bf16⟩
  | .local _ .vmem, ⟨27, _⟩ => ⟨S32x2048, .bf16⟩
  | .local _ .vmem, ⟨28, _⟩ => ⟨S64x2048, .bf16⟩
  | .local _ .vmem, ⟨29, _⟩ => ⟨S64x2048, .bf16⟩
  | .local _ .vmem, ⟨30, _⟩ => ⟨S64x2048, .bf16⟩
  | .local _ .vmem, ⟨31, _⟩ => ⟨S64x2048, .bf16⟩
  | .local _ .vmem, ⟨32, _⟩ => ⟨S2048x128, .f32⟩
  | .local _ .vmem, ⟨33, _⟩ => ⟨S2048x128, .f32⟩
  | .local _ .vmem, ⟨34, _⟩ => ⟨S2048x256, .f32⟩
  | .local _ .vmem, ⟨35, _⟩ => ⟨S16x128x256, .f32⟩
  | .local _ .smem, ⟨0, _⟩ => ⟨S8, .f32⟩
  | _, _ => ⟨S4x2048x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_call0_v0 : Ref sig .tc := ⟨.hbm, 57, rfl⟩
abbrev main_call0_v1 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68_0 : Ref sig .tc := ⟨.hbm, 86, rfl⟩
abbrev main_v68_1 : Ref sig .tc := ⟨.hbm, 87, rfl⟩
abbrev main_v68_2 : Ref sig .tc := ⟨.hbm, 88, rfl⟩
abbrev main_v68_3 : Ref sig .tc := ⟨.hbm, 89, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨2, ![4, 8], ![false, false]⟩

def k0_off1 (i : grid0.Coords) : Fin 1 → Nat :=
  let arg1 : BitVec 32 := BitVec.ofNat 32 (i 1).val
  let v18 : Index := Scalar.indexCast arg1
  ![v18.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S4x2048x13312 : Shape := ⟨3, ![4, 2048, 13312]⟩
abbrev S1x2048 : Shape := ⟨2, ![1, 2048]⟩
abbrev S1x1024x2048 : Shape := ⟨3, ![1, 1024, 2048]⟩
abbrev S1x2048x2048 : Shape := ⟨3, ![1, 2048, 2048]⟩
abbrev S2048 : Shape := ⟨1, ![2048]⟩
abbrev S4x2048x1024 : Shape := ⟨3, ![4, 2048, 1024]⟩
abbrev S4x2048x2048 : Shape := ⟨3, ![4, 2048, 2048]⟩
abbrev S4x2048x8x128 : Shape := ⟨4, ![4, 2048, 8, 128]⟩
abbrev S4x8x2048x128 : Shape := ⟨4, ![4, 8, 2048, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S4x8x2048x64 : Shape := ⟨4, ![4, 8, 2048, 64]⟩
abbrev S1x1x2048x64 : Shape := ⟨4, ![1, 1, 2048, 64]⟩
abbrev S4x2048x8x256 : Shape := ⟨4, ![4, 2048, 8, 256]⟩
abbrev S4x8x2048x256 : Shape := ⟨4, ![4, 8, 2048, 256]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S1x8x1x1 : Shape := ⟨4, ![1, 8, 1, 1]⟩
abbrev S4x8x16x128x128 : Shape := ⟨5, ![4, 8, 16, 128, 128]⟩
abbrev S4x8x16x128x256 : Shape := ⟨5, ![4, 8, 16, 128, 256]⟩
abbrev S8x1x128x128 : Shape := ⟨4, ![8, 1, 128, 128]⟩
abbrev S1x8x1x128x128 : Shape := ⟨5, ![1, 8, 1, 128, 128]⟩
abbrev S8x1x128x1 : Shape := ⟨4, ![8, 1, 128, 1]⟩
abbrev S1x8x1x128x1 : Shape := ⟨5, ![1, 8, 1, 128, 1]⟩
abbrev S16x4x8x128x256 : Shape := ⟨5, ![16, 4, 8, 128, 256]⟩
abbrev S4x8x128x256 : Shape := ⟨4, ![4, 8, 128, 256]⟩
abbrev S1x4x8x128x256 : Shape := ⟨5, ![1, 4, 8, 128, 256]⟩
abbrev S4x8x2048 : Shape := ⟨3, ![4, 8, 2048]⟩
abbrev S4x8x2048x1 : Shape := ⟨4, ![4, 8, 2048, 1]⟩
abbrev S1x1x2048 : Shape := ⟨3, ![1, 1, 2048]⟩
abbrev S1024x2048 : Shape := ⟨2, ![1024, 2048]⟩
abbrev S2048x2048 : Shape := ⟨2, ![2048, 2048]⟩

abbrev nBuf : Space → Nat
  | .hbm => 314
  | .vmem => 0
  | .smem => 0
  | _ => 0

abbrev hbmTy0_0 (i : Nat) : BufTy := match i % 128 with
  | 0 => ⟨S4x2048x13312, .bf16⟩
  | 1 => ⟨S1x2048, .f32⟩
  | 2 => ⟨S1x1024x2048, .f32⟩
  | 3 => ⟨S1x2048x2048, .f32⟩
  | 4 => ⟨S1x2048x2048, .f32⟩
  | 5 => ⟨S2048, .i32⟩
  | 6 => ⟨S4x2048x13312, .f32⟩
  | 7 => ⟨S4x2048x1024, .f32⟩
  | 8 => ⟨S4x2048x1024, .f32⟩
  | 9 => ⟨S4x2048x1024, .f32⟩
  | 10 => ⟨S4x2048x1024, .f32⟩
  | 11 => ⟨S4x2048x1024, .f32⟩
  | 12 => ⟨S4x2048x2048, .f32⟩
  | 13 => ⟨S4x2048x2048, .f32⟩
  | 14 => ⟨S4x2048x2048, .f32⟩
  | 15 => ⟨S4x2048x2048, .f32⟩
  | 16 => ⟨S4x2048x8x128, .f32⟩
  | 17 => ⟨S4x8x2048x128, .f32⟩
  | 18 => ⟨S64, .f32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S2048, .f32⟩
  | 27 => ⟨S2048x1, .f32⟩
  | 28 => ⟨S1x64, .f32⟩
  | 29 => ⟨S2048x64, .f32⟩
  | 30 => ⟨S2048x64, .f32⟩
  | 31 => ⟨S2048x64, .f32⟩
  | 32 => ⟨S2048x64, .f32⟩
  | 33 => ⟨S2048x64, .f32⟩
  | 34 => ⟨S4x8x2048x64, .f32⟩
  | 35 => ⟨S4x8x2048x64, .f32⟩
  | 36 => ⟨S1x1x2048x64, .f32⟩
  | 37 => ⟨S4x8x2048x64, .f32⟩
  | 38 => ⟨S4x8x2048x64, .f32⟩
  | 39 => ⟨S1x1x2048x64, .f32⟩
  | 40 => ⟨S4x8x2048x64, .f32⟩
  | 41 => ⟨S4x8x2048x64, .f32⟩
  | 42 => ⟨S4x8x2048x64, .f32⟩
  | 43 => ⟨S1x1x2048x64, .f32⟩
  | 44 => ⟨S4x8x2048x64, .f32⟩
  | 45 => ⟨S4x8x2048x64, .f32⟩
  | 46 => ⟨S1x1x2048x64, .f32⟩
  | 47 => ⟨S4x8x2048x64, .f32⟩
  | 48 => ⟨S4x8x2048x64, .f32⟩
  | 49 => ⟨S4x8x2048x64, .f32⟩
  | 50 => ⟨S4x8x2048x128, .f32⟩
  | 51 => ⟨S4x2048x8x128, .f32⟩
  | 52 => ⟨S4x8x2048x128, .f32⟩
  | 53 => ⟨S64, .f32⟩
  | 54 => ⟨S64, .f32⟩
  | 55 => ⟨S_, .f32⟩
  | 56 => ⟨S64, .f32⟩
  | 57 => ⟨S64, .f32⟩
  | 58 => ⟨S_, .f32⟩
  | 59 => ⟨S64, .f32⟩
  | 60 => ⟨S64, .f32⟩
  | 61 => ⟨S2048, .f32⟩
  | 62 => ⟨S2048x1, .f32⟩
  | 63 => ⟨S1x64, .f32⟩
  | 64 => ⟨S2048x64, .f32⟩
  | 65 => ⟨S2048x64, .f32⟩
  | 66 => ⟨S2048x64, .f32⟩
  | 67 => ⟨S2048x64, .f32⟩
  | 68 => ⟨S2048x64, .f32⟩
  | 69 => ⟨S4x8x2048x64, .f32⟩
  | 70 => ⟨S4x8x2048x64, .f32⟩
  | 71 => ⟨S1x1x2048x64, .f32⟩
  | 72 => ⟨S4x8x2048x64, .f32⟩
  | 73 => ⟨S4x8x2048x64, .f32⟩
  | 74 => ⟨S1x1x2048x64, .f32⟩
  | 75 => ⟨S4x8x2048x64, .f32⟩
  | 76 => ⟨S4x8x2048x64, .f32⟩
  | 77 => ⟨S4x8x2048x64, .f32⟩
  | 78 => ⟨S1x1x2048x64, .f32⟩
  | 79 => ⟨S4x8x2048x64, .f32⟩
  | 80 => ⟨S4x8x2048x64, .f32⟩
  | 81 => ⟨S1x1x2048x64, .f32⟩
  | 82 => ⟨S4x8x2048x64, .f32⟩
  | 83 => ⟨S4x8x2048x64, .f32⟩
  | 84 => ⟨S4x8x2048x64, .f32⟩
  | 85 => ⟨S4x8x2048x128, .f32⟩
  | 86 => ⟨S_, .f32⟩
  | 87 => ⟨S4x8x2048x128, .f32⟩
  | 88 => ⟨S4x8x2048x128, .f32⟩
  | 89 => ⟨S4x2048x8x256, .f32⟩
  | 90 => ⟨S4x8x2048x256, .f32⟩
  | 91 => ⟨S8, .f32⟩
  | 92 => ⟨S_, .f32⟩
  | 93 => ⟨S8, .f32⟩
  | 94 => ⟨S8, .f32⟩
  | 95 => ⟨S_, .f32⟩
  | 96 => ⟨S8, .f32⟩
  | 97 => ⟨S8, .f32⟩
  | 98 => ⟨S_, .f32⟩
  | 99 => ⟨S8, .f32⟩
  | 100 => ⟨S8, .f32⟩
  | 101 => ⟨S8, .f32⟩
  | 102 => ⟨S128, .f32⟩
  | 103 => ⟨S128x1, .f32⟩
  | 104 => ⟨S1x128, .f32⟩
  | 105 => ⟨S128x128, .f32⟩
  | 106 => ⟨S128x128, .f32⟩
  | 107 => ⟨S128x128, .f32⟩
  | 108 => ⟨S8x1x1, .f32⟩
  | 109 => ⟨S_, .f32⟩
  | 110 => ⟨S128x128, .f32⟩
  | 111 => ⟨S128x128, .i1⟩
  | 112 => ⟨S_, .f32⟩
  | 113 => ⟨S128x128, .f32⟩
  | 114 => ⟨S128x128, .f32⟩
  | 115 => ⟨S1x128x128, .f32⟩
  | 116 => ⟨S8x128x128, .f32⟩
  | 117 => ⟨S8x128x128, .f32⟩
  | 118 => ⟨S8x128x128, .f32⟩
  | 119 => ⟨S8x128x128, .f32⟩
  | 120 => ⟨S_, .f32⟩
  | 121 => ⟨S_, .f32⟩
  | 122 => ⟨S8x128x128, .i1⟩
  | 123 => ⟨S8x128x128, .f32⟩
  | 124 => ⟨S8x128x128, .f32⟩
  | 125 => ⟨S8x1, .f32⟩
  | 126 => ⟨S_, .f32⟩
  | 127 => ⟨S128, .f32⟩
  | _ => ⟨S4x2048x13312, .bf16⟩

abbrev hbmTy0_1 (i : Nat) : BufTy := match i % 128 with
  | 0 => ⟨S128, .f32⟩
  | 1 => ⟨S1x128, .f32⟩
  | 2 => ⟨S8x128, .f32⟩
  | 3 => ⟨S8x128, .f32⟩
  | 4 => ⟨S8x128, .f32⟩
  | 5 => ⟨S8x128, .f32⟩
  | 6 => ⟨S8x1, .f32⟩
  | 7 => ⟨S_, .f32⟩
  | 8 => ⟨S128, .f32⟩
  | 9 => ⟨S128, .f32⟩
  | 10 => ⟨S1x128, .f32⟩
  | 11 => ⟨S8x128, .f32⟩
  | 12 => ⟨S8x128, .f32⟩
  | 13 => ⟨S8x128, .f32⟩
  | 14 => ⟨S8x128, .f32⟩
  | 15 => ⟨S_, .f32⟩
  | 16 => ⟨S8, .f32⟩
  | 17 => ⟨S8, .f32⟩
  | 18 => ⟨S8, .f32⟩
  | 19 => ⟨S1x8x1x1, .f32⟩
  | 20 => ⟨S4x8x16x128x128, .f32⟩
  | 21 => ⟨S4x8x16x128x128, .f32⟩
  | 22 => ⟨S4x8x16x128x256, .f32⟩
  | 23 => ⟨S4x8x16x128x128, .f32⟩
  | 24 => ⟨S8x1x128x128, .f32⟩
  | 25 => ⟨S1x8x1x128x128, .f32⟩
  | 26 => ⟨S4x8x16x128x128, .f32⟩
  | 27 => ⟨S4x8x16x128x128, .f32⟩
  | 28 => ⟨S4x8x16x128x256, .f32⟩
  | 29 => ⟨S8x1x128x1, .f32⟩
  | 30 => ⟨S1x8x1x128x1, .f32⟩
  | 31 => ⟨S4x8x16x128x128, .f32⟩
  | 32 => ⟨S4x8x16x128x128, .f32⟩
  | 33 => ⟨S16x4x8x128x256, .f32⟩
  | 34 => ⟨S_, .f32⟩
  | 35 => ⟨S4x8x128x256, .f32⟩
  | 36 => ⟨S4x8x128x256, .f32⟩
  | 37 => ⟨S4x8x128x256, .f32⟩
  | 38 => ⟨S1x4x8x128x256, .f32⟩
  | 39 => ⟨S4x8x128x256, .f32⟩
  | 40 => ⟨S4x8x128x256, .f32⟩
  | 41 => ⟨S4x8x128x256, .f32⟩
  | 42 => ⟨S4x8x128x256, .f32⟩
  | 43 => ⟨S1x4x8x128x256, .f32⟩
  | 44 => ⟨S4x8x128x256, .f32⟩
  | 45 => ⟨S4x8x128x256, .f32⟩
  | 46 => ⟨S4x8x128x256, .f32⟩
  | 47 => ⟨S4x8x128x256, .f32⟩
  | 48 => ⟨S1x4x8x128x256, .f32⟩
  | 49 => ⟨S4x8x128x256, .f32⟩
  | 50 => ⟨S4x8x128x256, .f32⟩
  | 51 => ⟨S4x8x128x256, .f32⟩
  | 52 => ⟨S4x8x128x256, .f32⟩
  | 53 => ⟨S1x4x8x128x256, .f32⟩
  | 54 => ⟨S4x8x128x256, .f32⟩
  | 55 => ⟨S4x8x128x256, .f32⟩
  | 56 => ⟨S4x8x128x256, .f32⟩
  | 57 => ⟨S4x8x128x256, .f32⟩
  | 58 => ⟨S1x4x8x128x256, .f32⟩
  | 59 => ⟨S4x8x128x256, .f32⟩
  | 60 => ⟨S4x8x128x256, .f32⟩
  | 61 => ⟨S4x8x128x256, .f32⟩
  | 62 => ⟨S4x8x128x256, .f32⟩
  | 63 => ⟨S1x4x8x128x256, .f32⟩
  | 64 => ⟨S4x8x128x256, .f32⟩
  | 65 => ⟨S4x8x128x256, .f32⟩
  | 66 => ⟨S4x8x128x256, .f32⟩
  | 67 => ⟨S4x8x128x256, .f32⟩
  | 68 => ⟨S1x4x8x128x256, .f32⟩
  | 69 => ⟨S4x8x128x256, .f32⟩
  | 70 => ⟨S4x8x128x256, .f32⟩
  | 71 => ⟨S4x8x128x256, .f32⟩
  | 72 => ⟨S4x8x128x256, .f32⟩
  | 73 => ⟨S1x4x8x128x256, .f32⟩
  | 74 => ⟨S4x8x128x256, .f32⟩
  | 75 => ⟨S4x8x128x256, .f32⟩
  | 76 => ⟨S4x8x128x256, .f32⟩
  | 77 => ⟨S4x8x128x256, .f32⟩
  | 78 => ⟨S1x4x8x128x256, .f32⟩
  | 79 => ⟨S4x8x128x256, .f32⟩
  | 80 => ⟨S4x8x128x256, .f32⟩
  | 81 => ⟨S4x8x128x256, .f32⟩
  | 82 => ⟨S4x8x128x256, .f32⟩
  | 83 => ⟨S1x4x8x128x256, .f32⟩
  | 84 => ⟨S4x8x128x256, .f32⟩
  | 85 => ⟨S4x8x128x256, .f32⟩
  | 86 => ⟨S4x8x128x256, .f32⟩
  | 87 => ⟨S4x8x128x256, .f32⟩
  | 88 => ⟨S1x4x8x128x256, .f32⟩
  | 89 => ⟨S4x8x128x256, .f32⟩
  | 90 => ⟨S4x8x128x256, .f32⟩
  | 91 => ⟨S4x8x128x256, .f32⟩
  | 92 => ⟨S4x8x128x256, .f32⟩
  | 93 => ⟨S1x4x8x128x256, .f32⟩
  | 94 => ⟨S4x8x128x256, .f32⟩
  | 95 => ⟨S4x8x128x256, .f32⟩
  | 96 => ⟨S4x8x128x256, .f32⟩
  | 97 => ⟨S4x8x128x256, .f32⟩
  | 98 => ⟨S1x4x8x128x256, .f32⟩
  | 99 => ⟨S4x8x128x256, .f32⟩
  | 100 => ⟨S4x8x128x256, .f32⟩
  | 101 => ⟨S4x8x128x256, .f32⟩
  | 102 => ⟨S4x8x128x256, .f32⟩
  | 103 => ⟨S1x4x8x128x256, .f32⟩
  | 104 => ⟨S4x8x128x256, .f32⟩
  | 105 => ⟨S4x8x128x256, .f32⟩
  | 106 => ⟨S4x8x128x256, .f32⟩
  | 107 => ⟨S4x8x128x256, .f32⟩
  | 108 => ⟨S1x4x8x128x256, .f32⟩
  | 109 => ⟨S4x8x128x256, .f32⟩
  | 110 => ⟨S4x8x128x256, .f32⟩
  | 111 => ⟨S4x8x128x256, .f32⟩
  | 112 => ⟨S4x8x128x256, .f32⟩
  | 113 => ⟨S1x4x8x128x256, .f32⟩
  | 114 => ⟨S4x8x128x256, .f32⟩
  | 115 => ⟨S4x8x128x256, .f32⟩
  | 116 => ⟨S1x4x8x128x256, .f32⟩
  | 117 => ⟨S1x4x8x128x256, .f32⟩
  | 118 => ⟨S1x4x8x128x256, .f32⟩
  | 119 => ⟨S1x4x8x128x256, .f32⟩
  | 120 => ⟨S1x4x8x128x256, .f32⟩
  | 121 => ⟨S1x4x8x128x256, .f32⟩
  | 122 => ⟨S1x4x8x128x256, .f32⟩
  | 123 => ⟨S1x4x8x128x256, .f32⟩
  | 124 => ⟨S1x4x8x128x256, .f32⟩
  | 125 => ⟨S1x4x8x128x256, .f32⟩
  | 126 => ⟨S1x4x8x128x256, .f32⟩
  | 127 => ⟨S1x4x8x128x256, .f32⟩
  | _ => ⟨S4x2048x13312, .bf16⟩

abbrev hbmTy0_2 (i : Nat) : BufTy := match i % 128 with
  | 0 => ⟨S1x4x8x128x256, .f32⟩
  | 1 => ⟨S1x4x8x128x256, .f32⟩
  | 2 => ⟨S1x4x8x128x256, .f32⟩
  | 3 => ⟨S1x4x8x128x256, .f32⟩
  | 4 => ⟨S16x4x8x128x256, .f32⟩
  | 5 => ⟨S8x1x128x1, .f32⟩
  | 6 => ⟨S1x8x1x128x1, .f32⟩
  | 7 => ⟨S4x8x16x128x128, .f32⟩
  | 8 => ⟨S4x8x16x128x128, .f32⟩
  | 9 => ⟨S4x8x16x128x256, .f32⟩
  | 10 => ⟨S4x8x16x128x256, .f32⟩
  | 11 => ⟨S4x8x2048x256, .f32⟩
  | 12 => ⟨S2048, .f32⟩
  | 13 => ⟨S_, .f32⟩
  | 14 => ⟨S4x8x2048, .f32⟩
  | 15 => ⟨S4x8x2048x1, .f32⟩
  | 16 => ⟨S_, .f32⟩
  | 17 => ⟨S4x8x2048x1, .f32⟩
  | 18 => ⟨S4x8x2048x1, .f32⟩
  | 19 => ⟨S4x8x2048x256, .f32⟩
  | 20 => ⟨S4x8x2048x256, .f32⟩
  | 21 => ⟨S4x8x2048x256, .f32⟩
  | 22 => ⟨S_, .f32⟩
  | 23 => ⟨S4x8x2048, .f32⟩
  | 24 => ⟨S4x8x2048x1, .f32⟩
  | 25 => ⟨S_, .f32⟩
  | 26 => ⟨S4x8x2048x1, .f32⟩
  | 27 => ⟨S4x8x2048x1, .f32⟩
  | 28 => ⟨S4x8x2048x256, .f32⟩
  | 29 => ⟨S4x8x2048x256, .f32⟩
  | 30 => ⟨S_, .f32⟩
  | 31 => ⟨S4x8x2048x1, .f32⟩
  | 32 => ⟨S4x8x2048x1, .f32⟩
  | 33 => ⟨S4x8x2048x1, .f32⟩
  | 34 => ⟨S4x8x2048x256, .f32⟩
  | 35 => ⟨S4x8x2048x256, .f32⟩
  | 36 => ⟨S4x2048x8x256, .f32⟩
  | 37 => ⟨S4x2048x2048, .f32⟩
  | 38 => ⟨S1x1x2048, .f32⟩
  | 39 => ⟨S4x2048x2048, .f32⟩
  | 40 => ⟨S4x2048x2048, .f32⟩
  | 41 => ⟨S4x2048x2048, .f32⟩
  | 42 => ⟨S4x2048x2048, .f32⟩
  | 43 => ⟨S_, .f32⟩
  | 44 => ⟨S4x2048x2048, .f32⟩
  | 45 => ⟨S4x2048x2048, .f32⟩
  | 46 => ⟨S_, .f32⟩
  | 47 => ⟨S4x2048x2048, .f32⟩
  | 48 => ⟨S4x2048x2048, .f32⟩
  | 49 => ⟨S4x2048x2048, .f32⟩
  | 50 => ⟨S4x2048x2048, .f32⟩
  | 51 => ⟨S4x2048x2048, .bf16⟩
  | 52 => ⟨S1024x2048, .f32⟩
  | 53 => ⟨S1024x2048, .bf16⟩
  | 54 => ⟨S2048x2048, .f32⟩
  | 55 => ⟨S2048x2048, .bf16⟩
  | 56 => ⟨S2048x2048, .f32⟩
  | 57 => ⟨S2048x2048, .bf16⟩
  | _ => ⟨S4x2048x13312, .bf16⟩

abbrev hbmTy (i : Nat) : BufTy := match i / 128 with
  | 0 => hbmTy0_0 i
  | 1 => hbmTy0_1 i
  | 2 => hbmTy0_2 i
  | _ => ⟨S4x2048x13312, .bf16⟩

abbrev bufTy : (tb : Table) → Fin (tcTables nBuf tb) → BufTy
  | .hbm, ⟨i, _⟩ => hbmTy i
  | _, _ => ⟨S4x2048x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_1 : Ref sig .tc := ⟨.hbm, 55, rfl⟩
abbrev main_v48 : Ref sig .tc := ⟨.hbm, 56, rfl⟩
abbrev main_v49 : Ref sig .tc := ⟨.hbm, 57, rfl⟩
abbrev main_cst_2 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_3 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_4 : Ref sig .tc := ⟨.hbm, 92, rfl⟩
abbrev main_v82 : Ref sig .tc := ⟨.hbm, 93, rfl⟩
abbrev main_v83 : Ref sig .tc := ⟨.hbm, 94, rfl⟩
abbrev main_cst_5 : Ref sig .tc := ⟨.hbm, 95, rfl⟩
abbrev main_v84 : Ref sig .tc := ⟨.hbm, 96, rfl⟩
abbrev main_v85 : Ref sig .tc := ⟨.hbm, 97, rfl⟩
abbrev main_cst_6 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_cst_7 : Ref sig .tc := ⟨.hbm, 109, rfl⟩
abbrev main_v96 : Ref sig .tc := ⟨.hbm, 110, rfl⟩
abbrev main_v97 : Ref sig .tc := ⟨.hbm, 111, rfl⟩
abbrev main_cst_8 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_cst_9 : Ref sig .tc := ⟨.hbm, 120, rfl⟩
abbrev main_call0_v0 : Ref sig .tc := ⟨.hbm, 121, rfl⟩
abbrev main_call0_v1 : Ref sig .tc := ⟨.hbm, 122, rfl⟩
abbrev main_call0_v2 : Ref sig .tc := ⟨.hbm, 123, rfl⟩
abbrev main_v105 : Ref sig .tc := ⟨.hbm, 124, rfl⟩
abbrev main_v106 : Ref sig .tc := ⟨.hbm, 125, rfl⟩
abbrev main_cst_10 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_cst_11 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_cst_12 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_cst_13 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_v229 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_v237 : Ref sig .tc := ⟨.hbm, 260, rfl⟩
abbrev main_v238 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_cst_14 : Ref sig .tc := ⟨.hbm, 269, rfl⟩
abbrev main_v246 : Ref sig .tc := ⟨.hbm, 270, rfl⟩
abbrev main_v247 : Ref sig .tc := ⟨.hbm, 271, rfl⟩
abbrev main_cst_15 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_cst_16 : Ref sig .tc := ⟨.hbm, 278, rfl⟩
abbrev main_v253 : Ref sig .tc := ⟨.hbm, 279, rfl⟩
abbrev main_v254 : Ref sig .tc := ⟨.hbm, 280, rfl⟩
abbrev main_cst_17 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_cst_18 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩
abbrev main_v268 : Ref sig .tc := ⟨.hbm, 296, rfl⟩
abbrev main_call1_v0 : Ref sig .tc := ⟨.hbm, 297, rfl⟩
abbrev main_call1_v1 : Ref sig .tc := ⟨.hbm, 298, rfl⟩
abbrev main_call1_cst : Ref sig .tc := ⟨.hbm, 299, rfl⟩
abbrev main_call1_v2 : Ref sig .tc := ⟨.hbm, 300, rfl⟩
abbrev main_call1_v3 : Ref sig .tc := ⟨.hbm, 301, rfl⟩
abbrev main_call1_cst_0 : Ref sig .tc := ⟨.hbm, 302, rfl⟩
abbrev main_call1_v4 : Ref sig .tc := ⟨.hbm, 303, rfl⟩
abbrev main_call1_v5 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩

abbrev nD : Nat := 1
abbrev τ : Topo := Topo.v7x

variable {F : FTy → Type} [FloatOps F]
-- ==== Kernel2.lean ====
abbrev S4x2048x2048 : Shape := ⟨3, ![4, 2048, 2048]⟩
abbrev S4x12288 : Shape := ⟨2, ![4, 12288]⟩
abbrev S1x2048 : Shape := ⟨2, ![1, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S8192x2048 : Shape := ⟨2, ![8192, 2048]⟩
abbrev S4x6x2048 : Shape := ⟨3, ![4, 6, 2048]⟩
abbrev S2048x11264 : Shape := ⟨2, ![2048, 11264]⟩
abbrev S2048x2x11x512 : Shape := ⟨4, ![2048, 2, 11, 512]⟩
abbrev S11x2048x2x512 : Shape := ⟨4, ![11, 2048, 2, 512]⟩
abbrev S11x2048x1024 : Shape := ⟨3, ![11, 2048, 1024]⟩
abbrev S5632x2048 : Shape := ⟨2, ![5632, 2048]⟩
abbrev S3x11264 : Shape := ⟨2, ![3, 11264]⟩
abbrev S4x11264 : Shape := ⟨2, ![4, 11264]⟩
abbrev S4x2x5632 : Shape := ⟨3, ![4, 2, 5632]⟩
abbrev S2x4x5632 : Shape := ⟨3, ![2, 4, 5632]⟩
abbrev S1024x2048 : Shape := ⟨2, ![1024, 2048]⟩
abbrev S16x2048 : Shape := ⟨2, ![16, 2048]⟩
abbrev S1x6x2048 : Shape := ⟨3, ![1, 6, 2048]⟩
abbrev S1x2048x1024 : Shape := ⟨3, ![1, 2048, 1024]⟩
abbrev S2x4x512 : Shape := ⟨3, ![2, 4, 512]⟩
abbrev S512x2048 : Shape := ⟨2, ![512, 2048]⟩
abbrev S1040x2048 : Shape := ⟨2, ![1040, 2048]⟩
abbrev S2x1040x512 : Shape := ⟨3, ![2, 1040, 512]⟩
abbrev S1x1x2048 : Shape := ⟨3, ![1, 1, 2048]⟩
abbrev S16 : Shape := ⟨1, ![16]⟩
abbrev S16x1 : Shape := ⟨2, ![16, 1]⟩
abbrev S1x2048x512 : Shape := ⟨3, ![1, 2048, 512]⟩
abbrev S2048x512 : Shape := ⟨2, ![2048, 512]⟩
abbrev S1040x512 : Shape := ⟨2, ![1040, 512]⟩
abbrev S1x1040x512 : Shape := ⟨3, ![1, 1040, 512]⟩
abbrev S1x1x512 : Shape := ⟨3, ![1, 1, 512]⟩
abbrev S1x512 : Shape := ⟨2, ![1, 512]⟩
abbrev S1x1024x512 : Shape := ⟨3, ![1, 1024, 512]⟩
abbrev S1024x512 : Shape := ⟨2, ![1024, 512]⟩
abbrev S1024x256 : Shape := ⟨2, ![1024, 256]⟩
abbrev S256x2048 : Shape := ⟨2, ![256, 2048]⟩

abbrev nBuf : Space → Nat
  | .hbm => 21
  | .vmem => 17
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S1x2048, .f32⟩
  | .hbm, ⟨3, _⟩ => ⟨S1x2048x11264, .f32⟩
  | .hbm, ⟨4, _⟩ => ⟨S1x3x11264, .f32⟩
  | .hbm, ⟨5, _⟩ => ⟨S1x11264, .f32⟩
  | .hbm, ⟨6, _⟩ => ⟨S1x5632x2048, .f32⟩
  | .hbm, ⟨7, _⟩ => ⟨S8192x2048, .f32⟩
  | .hbm, ⟨8, _⟩ => ⟨S4x6x2048, .f32⟩
  | .hbm, ⟨9, _⟩ => ⟨S2048x11264, .f32⟩
  | .hbm, ⟨10, _⟩ => ⟨S2048x11264, .bf16⟩
  | .hbm, ⟨11, _⟩ => ⟨S2048x2x11x512, .bf16⟩
  | .hbm, ⟨12, _⟩ => ⟨S11x2048x2x512, .bf16⟩
  | .hbm, ⟨13, _⟩ => ⟨S11x2048x1024, .bf16⟩
  | .hbm, ⟨14, _⟩ => ⟨S5632x2048, .f32⟩
  | .hbm, ⟨15, _⟩ => ⟨S5632x2048, .bf16⟩
  | .hbm, ⟨16, _⟩ => ⟨S3x11264, .f32⟩
  | .hbm, ⟨17, _⟩ => ⟨S4x11264, .f32⟩
  | .hbm, ⟨18, _⟩ => ⟨S4x2x5632, .f32⟩
  | .hbm, ⟨19, _⟩ => ⟨S2x4x5632, .f32⟩
  | .hbm, ⟨20, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S1x2048x1024, .bf16⟩
  | .local _ .vmem, ⟨8, _⟩ => ⟨S1x2048x1024, .bf16⟩
  | .local _ .vmem, ⟨9, _⟩ => ⟨S2x4x512, .f32⟩
  | .local _ .vmem, ⟨10, _⟩ => ⟨S2x4x512, .f32⟩
  | .local _ .vmem, ⟨11, _⟩ => ⟨S512x2048, .bf16⟩
  | .local _ .vmem, ⟨12, _⟩ => ⟨S512x2048, .bf16⟩
  | .local _ .vmem, ⟨13, _⟩ => ⟨S1024x2048, .f32⟩
  | .local _ .vmem, ⟨14, _⟩ => ⟨S1024x2048, .f32⟩
  | .local _ .vmem, ⟨15, _⟩ => ⟨S1040x2048, .bf16⟩
  | .local _ .vmem, ⟨16, _⟩ => ⟨S2x1040x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_25 : BitVec 32 := 0#32
  let c64_i32 : BitVec 32 := 64#32
  let v55 : BitVec 32 := Scalar.addi c0_i32_25 c64_i32
  let c1_i32_26 : BitVec 32 := 1#32
  ⟨c0_i32_25, v55, c1_i32_26⟩
def k0_mult1 (k0_t1 : Fin k0_t1_loop.trips) : BitVec 32 :=
  let c0_i32_25 : BitVec 32 := 0#32
  let c1_i32_26 : BitVec 32 := 1#32
  let arg12 : BitVec 32 := Scf.iv c0_i32_25 c1_i32_26 k0_t1
  let c16_i32 : BitVec 32 := 16#32
  let v56 : BitVec 32 := Scalar.muli arg12 c16_i32
  v56
def k0_mult2 (k0_t1 : Fin k0_t1_loop.trips) : BitVec 32 :=
  let c16_i32_29 : BitVec 32 := 16#32
  let c0_i32_25 : BitVec 32 := 0#32
  let c1_i32_26 : BitVec 32 := 1#32
  let arg12 : BitVec 32 := Scf.iv c0_i32_25 c1_i32_26 k0_t1
  let c16_i32_28 : BitVec 32 := 16#32
  let v58 : BitVec 32 := Scalar.muli arg12 c16_i32_28
  let v59 : BitVec 32 := Scalar.addi c16_i32_29 v58
  v59
def k0_off1 (k0_t1 : Fin k0_t1_loop.trips) : Fin 2 → Nat :=
  let c0_i32_25 : BitVec 32 := 0#32
  let c1_i32_26 : BitVec 32 := 1#32
  let arg12 : BitVec 32 := Scf.iv c0_i32_25 c1_i32_26 k0_t1
  let c16_i32 : BitVec 32 := 16#32
  let v56 : BitVec 32 := Scalar.muli arg12 c16_i32
  let v57 : BitVec 32 := v56
  let v61 : Index := Scalar.indexCast v57
  let c0_30 : Index := 0#32
  ![v61.toNat, 0]
def k0_off2 (k0_t1 : Fin k0_t1_loop.trips) : Fin 2 → Nat :=
  let c16_i32_29 : BitVec 32 := 16#32
  let c0_i32_25 : BitVec 32 := 0#32
  let c1_i32_26 : BitVec 32 := 1#32
  let arg12 : BitVec 32 := Scf.iv c0_i32_25 c1_i32_26 k0_t1
  let c16_i32_28 : BitVec 32 := 16#32
  let v58 : BitVec 32 := Scalar.muli arg12 c16_i32_28
  let v59 : BitVec 32 := Scalar.addi c16_i32_29 v58
  let v60 : BitVec 32 := v59
  let v79 : Index := Scalar.indexCast v60
  let c0_34 : Index := 0#32
  ![v79.toNat, 0]
def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let c10_i32 : BitVec 32 := 10#32
  let v7 : BitVec 1 := Scalar.cmpi .slt arg1 c10_i32
  let v8 : BitVec 1 := Scalar.andi v6 v7
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c10_i32_5 : BitVec 32 := 10#32
  let v11 : BitVec 1 := Scalar.cmpi .eq arg1 c10_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S4x2048x2048 : Shape := ⟨3, ![4, 2048, 2048]⟩
abbrev S4x12288 : Shape := ⟨2, ![4, 12288]⟩
abbrev S1x2048 : Shape := ⟨2, ![1, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S4x2048 : Shape := ⟨2, ![4, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S4x1x2048 : Shape := ⟨3, ![4, 1, 2048]⟩
abbrev S2048x11264 : Shape := ⟨2, ![2048, 11264]⟩
abbrev S4x2048x11264 : Shape := ⟨3, ![4, 2048, 11264]⟩
abbrev S3x11264 : Shape := ⟨2, ![3, 11264]⟩
abbrev S11264 : Shape := ⟨1, ![11264]⟩
abbrev S4x2050x11264 : Shape := ⟨3, ![4, 2050, 11264]⟩
abbrev S1x1x11264 : Shape := ⟨3, ![1, 1, 11264]⟩
abbrev S4x2048x5632 : Shape := ⟨3, ![4, 2048, 5632]⟩
abbrev S5632x2048 : Shape := ⟨2, ![5632, 2048]⟩
abbrev S8192x2048 : Shape := ⟨2, ![8192, 2048]⟩

abbrev nBuf : Space → Nat
  | .hbm => 88
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S1x2048, .f32⟩
  | .hbm, ⟨3, _⟩ => ⟨S1x2048x11264, .f32⟩
  | .hbm, ⟨4, _⟩ => ⟨S1x3x11264, .f32⟩
  | .hbm, ⟨5, _⟩ => ⟨S1x11264, .f32⟩
  | .hbm, ⟨6, _⟩ => ⟨S1x5632x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S4x1x2048, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x2048x2048, .f32⟩
  | .hbm, ⟨35, _⟩ => ⟨S4x2048x2048, .f32⟩
  | .hbm, ⟨36, _⟩ => ⟨S4x1x2048, .f32⟩
  | .hbm, ⟨37, _⟩ => ⟨S4x2048x2048, .f32⟩
  | .hbm, ⟨38, _⟩ => ⟨S4x2048x2048, .f32⟩
  | .hbm, ⟨39, _⟩ => ⟨S2048x11264, .f32⟩
  | .hbm, ⟨40, _⟩ => ⟨S4x2048x11264, .f32⟩
  | .hbm, ⟨41, _⟩ => ⟨S3x11264, .f32⟩
  | .hbm, ⟨42, _⟩ => ⟨S11264, .f32⟩
  | .hbm, ⟨43, _⟩ => ⟨S_, .i32⟩
  | .hbm, ⟨44, _⟩ => ⟨S_, .f32⟩
  | .hbm, ⟨45, _⟩ => ⟨S4x2050x11264, .f32⟩
  | .hbm, ⟨46, _⟩ => ⟨S4x2048x11264, .f32⟩
  | .hbm, ⟨47, _⟩ => ⟨S1x11264, .f32⟩
  | .hbm, ⟨48, _⟩ => ⟨S11264, .f32⟩
  | .hbm, ⟨49, _⟩ => ⟨S1x1x11264, .f32⟩
  | .hbm, ⟨50, _⟩ => ⟨S4x2048x11264, .f32⟩
  | .hbm, ⟨51, _⟩ => ⟨S4x2048x11264, .f32⟩
  | .hbm, ⟨52, _⟩ => ⟨S4x2048x11264, .f32⟩
  | .hbm, ⟨53, _⟩ => ⟨S1x11264, .f32⟩
  | .hbm, ⟨54, _⟩ => ⟨S11264, .f32⟩
  | .hbm, ⟨55, _⟩ => ⟨S1x1x11264, .f32⟩
  | .hbm, ⟨56, _⟩ => ⟨S4x2048x11264, .f32⟩
  | .hbm, ⟨57, _⟩ => ⟨S4x2048x11264, .f32⟩
  | .hbm, ⟨58, _⟩ => ⟨S4x2048x11264, .f32⟩
  | .hbm, ⟨59, _⟩ => ⟨S4x2048x11264, .f32⟩
  | .hbm, ⟨60, _⟩ => ⟨S1x11264, .f32⟩
  | .hbm, ⟨61, _⟩ => ⟨S11264, .f32⟩
  | .hbm, ⟨62, _⟩ => ⟨S1x1x11264, .f32⟩
  | .hbm, ⟨63, _⟩ => ⟨S4x2048x11264, .f32⟩
  | .hbm, ⟨64, _⟩ => ⟨S4x2048x11264, .f32⟩
  | .hbm, ⟨65, _⟩ => ⟨S4x2048x11264, .f32⟩
  | .hbm, ⟨66, _⟩ => ⟨S1x1x11264, .f32⟩
  | .hbm, ⟨67, _⟩ => ⟨S4x2048x11264, .f32⟩
  | .hbm, ⟨68, _⟩ => ⟨S4x2048x11264, .f32⟩
  | .hbm, ⟨69, _⟩ => ⟨S4x2048x5632, .f32⟩
  | .hbm, ⟨70, _⟩ => ⟨S4x2048x5632, .f32⟩
  | .hbm, ⟨71, _⟩ => ⟨S4x1x2048, .f32⟩
  | .hbm, ⟨72, _⟩ => ⟨S4x2048x5632, .f32⟩
  | .hbm, ⟨73, _⟩ => ⟨S4x2048x5632, .f32⟩
  | .hbm, ⟨74, _⟩ => ⟨S_, .f32⟩
  | .hbm, ⟨75, _⟩ => ⟨S4x2048x5632, .f32⟩
  | .hbm, ⟨76, _⟩ => ⟨S4x2048x5632, .f32⟩
  | .hbm, ⟨77, _⟩ => ⟨S_, .f32⟩
  | .hbm, ⟨78, _⟩ => ⟨S4x2048x5632, .f32⟩
  | .hbm, ⟨79, _⟩ => ⟨S4x2048x5632, .f32⟩
  | .hbm, ⟨80, _⟩ => ⟨S4x2048x5632, .f32⟩
  | .hbm, ⟨81, _⟩ => ⟨S4x2048x5632, .f32⟩
  | .hbm, ⟨82, _⟩ => ⟨S5632x2048, .f32⟩
  | .hbm, ⟨83, _⟩ => ⟨S4x2048x2048, .f32⟩
  | .hbm, ⟨84, _⟩ => ⟨S4x2048x2048, .f32⟩
  | .hbm, ⟨85, _⟩ => ⟨S4x2048x2048, .f32⟩
  | .hbm, ⟨86, _⟩ => ⟨S4x2048x2048, .f32⟩
  | .hbm, ⟨87, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_call0_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Kernel3.lean ====
abbrev S4x2048x1024 : Shape := ⟨3, ![4, 2048, 1024]⟩
abbrev S4x2048x2048 : Shape := ⟨3, ![4, 2048, 2048]⟩
abbrev S4x2048x13312 : Shape := ⟨3, ![4, 2048, 13312]⟩
abbrev S1x1024x2048 : Shape := ⟨3, ![1, 1024, 2048]⟩
abbrev S1x2048x2048 : Shape := ⟨3, ![1, 2048, 2048]⟩
abbrev S4x12288 : Shape := ⟨2, ![4, 12288]⟩
abbrev S8192x1024 : Shape := ⟨2, ![8192, 1024]⟩
abbrev S8192x2048 : Shape := ⟨2, ![8192, 2048]⟩
abbrev S8192x13312 : Shape := ⟨2, ![8192, 13312]⟩
abbrev S1024x2048 : Shape := ⟨2, ![1024, 2048]⟩
abbrev S2048x2048 : Shape := ⟨2, ![2048, 2048]⟩
abbrev S4x6x2048 : Shape := ⟨3, ![4, 6, 2048]⟩
abbrev S512x1024 : Shape := ⟨2, ![512, 1024]⟩
abbrev S512x2048 : Shape := ⟨2, ![512, 2048]⟩
abbrev S1x6x2048 : Shape := ⟨3, ![1, 6, 2048]⟩
abbrev S1x1x2048 : Shape := ⟨3, ![1, 1, 2048]⟩
abbrev S1x2048 : Shape := ⟨2, ![1, 2048]⟩

abbrev nBuf : Space → Nat
  | .hbm => 20
  | .vmem => 21
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x2048, .bf16⟩
  | .hbm, ⟨2, _⟩ => ⟨S4x2048x13312, .bf16⟩
  | .hbm, ⟨3, _⟩ => ⟨S1x1024x2048, .f32⟩
  | .hbm, ⟨4, _⟩ => ⟨S1x2048x2048, .f32⟩
  | .hbm, ⟨5, _⟩ => ⟨S1x2048x2048, .f32⟩
  | .hbm, ⟨6, _⟩ => ⟨S4x2048x2048, .f32⟩
  | .hbm, ⟨7, _⟩ => ⟨S4x12288, .f32⟩
  | .hbm, ⟨8, _⟩ => ⟨S8192x1024, .bf16⟩
  | .hbm, ⟨9, _⟩ => ⟨S8192x2048, .bf16⟩
  | .hbm, ⟨10, _⟩ => ⟨S8192x13312, .bf16⟩
  | .hbm, ⟨11, _⟩ => ⟨S1024x2048, .f32⟩
  | .hbm, ⟨12, _⟩ => ⟨S1024x2048, .bf16⟩
  | .hbm, ⟨13, _⟩ => ⟨S2048x2048, .f32⟩
  | .hbm, ⟨14, _⟩ => ⟨S2048x2048, .bf16⟩
  | .hbm, ⟨15, _⟩ => ⟨S2048x2048, .f32⟩
  | .hbm, ⟨16, _⟩ => ⟨S2048x2048, .bf16⟩
  | .hbm, ⟨17, _⟩ => ⟨S8192x2048, .f32⟩
  | .hbm, ⟨18, _⟩ => ⟨S4x6x2048, .f32⟩
  | .hbm, ⟨19, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S2048x2048, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x6x2048, .f32⟩
  | .local _ .vmem, ⟨10, _⟩ => ⟨S1x6x2048, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x2048, .f32⟩
  | .local _ .vmem, ⟨20, _⟩ => ⟨S512x2048, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_8 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_9 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_10 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4x2048x1024 : Shape := ⟨3, ![4, 2048, 1024]⟩
abbrev S4x2048x2048 : Shape := ⟨3, ![4, 2048, 2048]⟩
abbrev S4x2048x13312 : Shape := ⟨3, ![4, 2048, 13312]⟩
abbrev S1x1024x2048 : Shape := ⟨3, ![1, 1024, 2048]⟩
abbrev S1x2048x2048 : Shape := ⟨3, ![1, 2048, 2048]⟩
abbrev S4x12288 : Shape := ⟨2, ![4, 12288]⟩
abbrev S4x2048 : Shape := ⟨2, ![4, 2048]⟩
abbrev S1024x2048 : Shape := ⟨2, ![1024, 2048]⟩
abbrev S2048x2048 : Shape := ⟨2, ![2048, 2048]⟩
abbrev S_ : Shape := ⟨0, ![]⟩
abbrev S4x1x2048 : Shape := ⟨3, ![4, 1, 2048]⟩
abbrev S8192x2048 : Shape := ⟨2, ![8192, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x2048, .bf16⟩
  | .hbm, ⟨2, _⟩ => ⟨S4x2048x13312, .bf16⟩
  | .hbm, ⟨3, _⟩ => ⟨S1x1024x2048, .f32⟩
  | .hbm, ⟨4, _⟩ => ⟨S1x2048x2048, .f32⟩
  | .hbm, ⟨5, _⟩ => ⟨S1x2048x2048, .f32⟩
  | .hbm, ⟨6, _⟩ => ⟨S4x2048x2048, .f32⟩
  | .hbm, ⟨7, _⟩ => ⟨S4x12288, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x2048x13312, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x1024, .f32⟩
  | .hbm, ⟨25, _⟩ => ⟨S1024x2048, .f32⟩
  | .hbm, ⟨26, _⟩ => ⟨S4x2048x2048, .f32⟩
  | .hbm, ⟨27, _⟩ => ⟨S4x2048x2048, .f32⟩
  | .hbm, ⟨28, _⟩ => ⟨S2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S_, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x2048x2048, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S4x1x2048, .f32⟩
  | .hbm, ⟨50, _⟩ => ⟨S2048x2048, .f32⟩
  | .hbm, ⟨51, _⟩ => ⟨S4x2048x2048, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | .hbm, ⟨55, _⟩ => ⟨S8192x2048, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Proof.RetTile.lean ====
/-
  One head's retention as the kernel computes it, chunk by chunk: every stored tile is the same function of its chunk's
  number, built on a state that grows by one step per chunk.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Ret

open Idealize.ShloMosaic Idealize.ShloMosaic.TcCoe Idealize.SL.Sem
open Idealize.ShloMosaic.Pipeline (Dat)
open Cert.KernelIdeal Cert.KernelIdeal.Gen

/-- Rows `o, …, o + 127` of a head's queries or keys. -/
def rows (X : Vec Ideal S2048x128 .f32) (o : ℕ) : Vec Ideal S128x128 .f32 :=
  fun x => X (ix2 (⟨(o + (x 0).val) % 2048, Nat.mod_lt _ (by decide)⟩ : Fin 2048) (x 1 : Fin 128))

/-- Rows `o, …, o + 127` of a head's values or gate. -/
def wide (X : Vec Ideal S1x2048x256 .bf16) (o : ℕ) : Vec Ideal S1x128x256 .bf16 :=
  fun x => X (ix3 (0 : Fin 1) (⟨(o + (x 1).val) % 2048, Nat.mod_lt _ (by decide)⟩ : Fin 2048) (x 2 : Fin 256))

/-- A load of 128 rows at row `o`. -/
theorem ld_rows (X : Vec Ideal S2048x128 .f32) (o : ℕ) (h) :
    View.ld X (Rect.unit (s := S2048x128) ![o, 0] ![128, 128] h) = rows X o := by
  funext x
  have h0 : o + 128 ≤ 2048 := h 0
  have hx : (x 0).val < 128 := (x 0).isLt
  unfold View.ld rows
  blk_ext [Rect.idx_unit_val]

/-- A load of 128 rows at row `o` of a rank-three block. -/
theorem ld_wide (X : Vec Ideal S1x2048x256 .bf16) (o : ℕ) (h) :
    View.ld X (Rect.unit (s := S1x2048x256) ![0, o, 0] ![1, 128, 256] h) = wide X o := by
  funext x
  have h0 : o + 128 ≤ 2048 := h 1
  have hx : (x 1).val < 128 := (x 1).isLt
  have hx0 : (x 0).val < 1 := (x 0).isLt
  unfold View.ld wide
  blk_ext [Rect.idx_unit_val]

/-- The state before chunk `n`: nothing at first, then the decayed state plus the last chunk's keys times its values. -/
def state (cd : Elt Ideal .f32) (KF : Vec Ideal S2048x128 .f32) (VV : Vec Ideal S1x2048x256 .bf16) (kd : Vec Ideal S1x128x128 .f32) :
    ℕ → FVec Ideal S128x256 .f32
  | 0 => k0_pay86
  | n + 1 => k0_pay89 cd (state cd KF VV kd n) (k0_pay38 (wide VV (128 * n)) (rows KF (128 * n)) kd)

/-- What chunk `n` gives before the norm: the masked scores times the values, plus the decayed queries times the state. -/
def mixed (cd : Elt Ideal .f32) (QF KF : Vec Ideal S2048x128 .f32) (VV : Vec Ideal S1x2048x256 .bf16)
    (D qd kd : Vec Ideal S1x128x128 .f32) (n : ℕ) : FVec Ideal S128x256 .f32 :=
  k0_pay94 (k0_pay34 (k0_pay13 (rows QF (128 * n)) (rows KF (128 * n)) D) (k0_pay33 (wide VV (128 * n))) (constant S128x256 FTy.f32 0#32))
    (k0_pay92 (rows QF (128 * n)) qd) (truncf .bf16 (state cd KF VV kd n) bitsLt_bf16_f32)

/-- What chunk `n` stores: the normalized, gated rows. -/
def tile (cd : Elt Ideal .f32) (QF KF : Vec Ideal S2048x128 .f32) (VV GG : Vec Ideal S1x2048x256 .bf16)
    (D qd kd : Vec Ideal S1x128x128 .f32) (gn : Vec Ideal S1x256 .f32) (n : ℕ) : FVec Ideal S1x128x256 .bf16 :=
  k0_pay136 (mixed cd QF KF VV D qd kd n) gn (wide GG (128 * n))

variable (m : (ℓ : Loc nD τ sig) → Buf (Elt Ideal) ℓ)

/-- The decay of one chunk for the head of grid point `t`, read from the table. -/
def decay (c : Dev nD) (t : Fin cfg0.N) : Elt Ideal .f32 :=
  View.ld (iblk m c 0 t) (Rect.unit (s := S8) (k0_off1 (grid0.coords t)) S1.size (k0_off1_inb _))
    (Shape.Idx.first (show 0 < S1.numel by decide))

/-- The rotated queries of grid point `t`. -/
def queries (c : Dev nD) (t : Fin cfg0.N) : Vec Ideal S2048x128 .f32 :=
  k0_pay11 (k0_pay6 (iblk m c 6 t)) (k0_pay9 (iblk m c 5 t) (iblk m c 1 t)) (k0_pay10 (iblk m c 1 t))

/-- The rotated, scaled keys of grid point `t`. -/
def keys (c : Dev nD) (t : Fin cfg0.N) : Vec Ideal S2048x128 .f32 :=
  k0_pay12 (k0_pay5 (iblk m c 5 t)) (k0_pay6 (iblk m c 6 t)) (k0_pay8 (iblk m c 2 t))

/-- What grid point `t` stores for chunk `n`. -/
def stored (c : Dev nD) (t : Fin cfg0.N) (n : ℕ) : FVec Ideal S1x128x256 .bf16 :=
  tile (decay m c t) (queries m c t) (keys m c t) (iblk m c 3 t) (iblk m c 4 t) (iblk m c 7 t) (iblk m c 8 t) (iblk m c 9 t)
    (iblk m c 10 t) n

set_option maxHeartbeats 2000000 in
/-- The result array is `G` as soon as every stored tile is `G` at its place. -/
theorem final_of (c : Dev nD) (G : FVec Ideal S4x2048x2048 .bf16)
    (hG : ∀ (t : Fin cfg0.N) (y : ((cfg0.win 14).xblock (cfg0.grid.coords t)).Idx) (x : S1x128x256.Idx) (n : ℕ), n < 16 → (y 0).val = (x 0).val →
      (y 1).val = 128 * n + (x 1).val → (y 2).val = (x 2).val →
      stored m c t n x = G (((View.whole main_v68_0).slice (win0_14.rect t)).emb y)) :
    (dats m 0 c).arrAt 14 (cfgs 0).N = G := by
  refine (dats m 0 c).arrAt_eq_of_covers 14 _ (by decide +kernel) fun t _ y => ?_
  blk_simp
  rw [after0_14]
  unfold Gen.outsAt0
  frame_open
  simp (disch := decide) only [↓ View.readCov_skip, ↓ View.readCov_cons_toLoadRect, ↓ View.readCov_fill]
  frame_out
  canon_tiles x h
  all_goals simp only [ld_rows, ld_wide]
  case piece0 =>
    refine Eq.trans (b := stored m c t 15 x) ?_ (hG t y x 15 (by decide) h0 (by omega) h2)
    simp only [stored, queries, keys, decay, tile, mixed, state]
    open_payloads
    rfl
  case piece1 =>
    refine Eq.trans (b := stored m c t 14 x) ?_ (hG t y x 14 (by decide) h0 (by omega) h2)
    simp only [stored, queries, keys, decay, tile, mixed, state]
    open_payloads
    rfl
  case piece2 =>
    refine Eq.trans (b := stored m c t 13 x) ?_ (hG t y x 13 (by decide) h0 (by omega) h2)
    simp only [stored, queries, keys, decay, tile, mixed, state]
    open_payloads
    rfl
  case piece3 =>
    refine Eq.trans (b := stored m c t 12 x) ?_ (hG t y x 12 (by decide) h0 (by omega) h2)
    simp only [stored, queries, keys, decay, tile, mixed, state]
    open_payloads
    rfl
  case piece4 =>
    refine Eq.trans (b := stored m c t 11 x) ?_ (hG t y x 11 (by decide) h0 (by omega) h2)
    simp only [stored, queries, keys, decay, tile, mixed, state]
    open_payloads
    rfl
  case piece5 =>
    refine Eq.trans (b := stored m c t 10 x) ?_ (hG t y x 10 (by decide) h0 (by omega) h2)
    simp only [stored, queries, keys, decay, tile, mixed, state]
    open_payloads
    rfl
  case piece6 =>
    refine Eq.trans (b := stored m c t 9 x) ?_ (hG t y x 9 (by decide) h0 (by omega) h2)
    simp only [stored, queries, keys, decay, tile, mixed, state]
    open_payloads
    rfl
  case piece7 =>
    refine Eq.trans (b := stored m c t 8 x) ?_ (hG t y x 8 (by decide) h0 (by omega) h2)
    simp only [stored, queries, keys, decay, tile, mixed, state]
    open_payloads
    rfl
  case piece8 =>
    refine Eq.trans (b := stored m c t 7 x) ?_ (hG t y x 7 (by decide) h0 (by omega) h2)
    simp only [stored, queries, keys, decay, tile, mixed, state]
    open_payloads
    rfl
  case piece9 =>
    refine Eq.trans (b := stored m c t 6 x) ?_ (hG t y x 6 (by decide) h0 (by omega) h2)
    simp only [stored, queries, keys, decay, tile, mixed, state]
    open_payloads
    rfl
  case piece10 =>
    refine Eq.trans (b := stored m c t 5 x) ?_ (hG t y x 5 (by decide) h0 (by omega) h2)
    simp only [stored, queries, keys, decay, tile, mixed, state]
    open_payloads
    rfl
  case piece11 =>
    refine Eq.trans (b := stored m c t 4 x) ?_ (hG t y x 4 (by decide) h0 (by omega) h2)
    simp only [stored, queries, keys, decay, tile, mixed, state]
    open_payloads
    rfl
  case piece12 =>
    refine Eq.trans (b := stored m c t 3 x) ?_ (hG t y x 3 (by decide) h0 (by omega) h2)
    simp only [stored, queries, keys, decay, tile, mixed, state]
    open_payloads
    rfl
  case piece13 =>
    refine Eq.trans (b := stored m c t 2 x) ?_ (hG t y x 2 (by decide) h0 (by omega) h2)
    simp only [stored, queries, keys, decay, tile, mixed, state]
    open_payloads
    rfl
  case piece14 =>
    refine Eq.trans (b := stored m c t 1 x) ?_ (hG t y x 1 (by decide) h0 (by omega) h2)
    simp only [stored, queries, keys, decay, tile, mixed, state]
    open_payloads
    rfl
  case piece15 =>
    refine Eq.trans (b := stored m c t 0 x) ?_ (hG t y x 0 (by decide) h0 (by omega) h2)
    simp only [stored, queries, keys, decay, tile, mixed, state]
    open_payloads
    rfl

end Cert.Ret
end
-- ==== Proof.RetTables.lean ====
/-
  The blocks a grid point of the retention call reads: the head's columns of the projections, and the tables of angles
  and decays, which are the ones the reference computes.
-/
module

public import proofs.«01_k».proof.Proof.RetTile
public import proofs.«01_k».proof.Proof.Gen.ReferenceIdeal.Read

@[expose] public section

set_option maxRecDepth 16384

noncomputable section

namespace Cert.Ret

open Idealize.ShloMosaic Idealize.ShloMosaic.TcCoe Idealize.SL.Sem
open Cert.KernelIdeal Cert.KernelIdeal.Gen
open Cert.ReferenceIdeal.Read

variable (m : (ℓ : Loc nD τ sig) → Buf (Elt Ideal) ℓ)

/-- Where each window's block lies at grid point `t`: batch row `t / 8`, head `t % 8`. -/
theorem idx : ∀ t : Fin cfg0.N, win0_0.index t = ![0] ∧ win0_1.index t = ![t.val / 8, 0, 24 + t.val % 8]
    ∧ win0_2.index t = ![t.val / 8, 0, 32 + t.val % 8] ∧ win0_3.index t = ![t.val / 8, 0, 20 + t.val % 8]
    ∧ win0_4.index t = ![t.val / 8, 0, 28 + t.val % 8] ∧ win0_5.index t = ![0, 0] ∧ win0_6.index t = ![0, 0]
    ∧ win0_7.index t = ![t.val % 8, 0, 0] ∧ win0_8.index t = ![t.val % 8, 0, 0] ∧ win0_9.index t = ![t.val % 8, 0, 0]
    ∧ win0_10.index t = ![0, t.val % 8] ∧ win0_11.index t = ![t.val, 0] ∧ win0_12.index t = ![t.val, 0]
    ∧ win0_13.index t = ![t.val, 0] ∧ win0_14.index t = ![t.val / 8, 0, t.val % 8] ∧ win0_15.index t = ![t.val, 0]
    ∧ win0_16.index t = ![t.val, 0] ∧ win0_17.index t = ![t.val, 0] ∧ k0_off1 (grid0.coords t) = ![t.val % 8] ∧ t.val / 8 < 4 :=
  (by decide +kernel : ∀ t : Fin grid0.N, _)

/-- The decay of a chunk. -/
theorem V_63 (c : Dev nD) : V m c main_v63 = val_main_v124 (F := Ideal) := by
  entry_read
  rfl

/-- The mask of decays within a chunk. -/
theorem V_44 (c : Dev nD) : V m c main_v44 = val_main_v105 (F := Ideal) := by
  entry_read
  rfl

/-- The cosines, twice. -/
theorem V_17 (c : Dev nD) : V m c main_v17 = concatenate S2048x128 1 [⟨S2048x64, val_main_v25 (F := Ideal)⟩, ⟨S2048x64, val_main_v25 (F := Ideal)⟩]
    concatenates_S2048x64_S2048x64_S2048x128_d1 := by
  entry_read
  rfl

/-- The sines, first negated. -/
theorem V_19 (c : Dev nD) : V m c main_v19 = (concatenate S2048x128 1 [⟨S2048x64, Host.negf (val_main_v26 (F := Ideal) : FVec Ideal S2048x64 .f32)⟩,
    ⟨S2048x64, (val_main_v26 (F := Ideal) : FVec Ideal S2048x64 .f32)⟩] concatenates_S2048x64_S2048x64_S2048x128_d1 : FVec Ideal S2048x128 .f32) := by
  entry_read
  rfl

/-- The decays of the queries, along the rows. -/
theorem V_65 (c : Dev nD) : V m c main_v65 = broadcastInDim S8x128x128 ![0, 1, 2] bcast_S8x128x1_S8x128x128_0_1_2
    (broadcastInDim S8x128x1 ![0, 1] bcast_S8x128_S8x128x1_0_1 (val_main_v113 (F := Ideal))) := by
  entry_read
  rfl

/-- The decays of the keys, along the rows. -/
theorem V_67 (c : Dev nD) : V m c main_v67 = broadcastInDim S8x128x128 ![0, 1, 2] bcast_S8x128x1_S8x128x128_0_1_2
    (broadcastInDim S8x128x1 ![0, 1] bcast_S8x128_S8x128x1_0_1 (val_main_v121 (F := Ideal))) := by
  entry_read
  rfl

/-- The keys' cosines are the queries'. -/
theorem cos_eq : val_main_v58 (F := Ideal) = val_main_v25 := rfl

/-- The keys' sines are the queries'. -/
theorem sin_eq : val_main_v59 (F := Ideal) = val_main_v26 := rfl

/-- The head of grid point `t`. -/
def hd (t : Fin cfg0.N) : Fin 8 := ⟨t.val % 8, Nat.mod_lt _ (by decide)⟩

/-- The batch row of grid point `t`. -/
def br (t : Fin cfg0.N) : Fin 4 := ⟨t.val / 8, (idx t).2.2.2.2.2.2.2.2.2.2.2.2.2.2.2.2.2.2.2⟩

/-- The decay of the head's chunks is the reference's. -/
theorem decay_eq (c : Dev nD) (t : Fin cfg0.N) : decay m c t = val_main_v124 (F := Ideal) (ix1 (hd t)) := by
  unfold decay View.ld
  rw [← V_63 m c]
  blk_ext [iblk, idx t, Rect.idx_unit_val, hd]

/-- The head's mask is the reference's. -/
theorem mask_eq (c : Dev nD) (t : Fin cfg0.N) (l j : Fin 128) : iblk m c 7 t (ix3 0 l j : S1x128x128.Idx) = val_main_v105 (F := Ideal) (ix3 (hd t) l j) := by
  rw [← V_44 m c]
  blk_ext [iblk, idx t, hd]

/-- The decay of the queries' rows is the reference's. -/
theorem qdec_eq (c : Dev nD) (t : Fin cfg0.N) (l d : Fin 128) : iblk m c 8 t (ix3 0 l d : S1x128x128.Idx) = val_main_v113 (F := Ideal) (ix2 (hd t) l) := by
  have h : iblk m c 8 t (ix3 0 l d : S1x128x128.Idx) = V m c main_v65 (ix3 (hd t) l d) := by blk_ext [iblk, idx t, hd]
  rw [h, V_65]
  pointwise

/-- The decay of the keys' rows is the reference's. -/
theorem kdec_eq (c : Dev nD) (t : Fin cfg0.N) (l d : Fin 128) : iblk m c 9 t (ix3 0 l d : S1x128x128.Idx) = val_main_v121 (F := Ideal) (ix2 (hd t) l) := by
  have h : iblk m c 9 t (ix3 0 l d : S1x128x128.Idx) = V m c main_v67 (ix3 (hd t) l d) := by blk_ext [iblk, idx t, hd]
  rw [h, V_67]
  pointwise

end Cert.Ret
end
-- ==== Proof.Scalars.lean ====
/-
  The scalar identities of the layer's gates over the extended reals: the sigmoid written with one
  hyperbolic tangent is the sigmoid written with one exponential, at every extended real; the silu
  written that way is `v * sigmoid v` at every extended real but -∞.
-/
module

public import Idealize.ShloMosaic.Lib.Pointwise
public import Idealize.ShloMosaic.Lib.Claim

@[expose] public section

noncomputable section

namespace Cert.Scalars

open Idealize.ShloMosaic

/-- The pattern `0x3F000000` denotes one half. -/
theorem half : Ideal.ofBits .f32 0x3F000000#32 = (((1 : ℝ) / 2 : ℝ) : EReal) := by
  simp [Ideal.ofBits, Ideal.ieee]
  rw [← EReal.coe_mul]
  norm_num

/-- The two writings of the sigmoid agree at a real number. -/
theorem real_sigmoid (r : ℝ) : 1 / 2 + 1 / 2 * Real.tanh (1 / 2 * r) = (1 + Real.exp (-r))⁻¹ := by
  have h : Real.exp (-r) = Real.exp (-(1 / 2 * r)) * Real.exp (-(1 / 2 * r)) := by
    rw [← Real.exp_add]; congr 1; ring
  have hp : Real.exp (1 / 2 * r) * Real.exp (-(1 / 2 * r)) = 1 := by
    rw [← Real.exp_add]; simp
  have ha := Real.exp_pos (1 / 2 * r)
  have hb := Real.exp_pos (-(1 / 2 * r))
  rw [Real.tanh_eq_sinh_div_cosh, Real.sinh_eq, Real.cosh_eq, h]
  generalize Real.exp (1 / 2 * r) = a at *
  generalize Real.exp (-(1 / 2 * r)) = b at *
  have h1 : a + b ≠ 0 := by positivity
  have h2 : 1 + b * b ≠ 0 := by positivity
  field_simp
  nlinarith

/-- The sigmoid written with one hyperbolic tangent is the sigmoid written with one exponential, at every
    extended real. -/
theorem sigmoid (v : EReal) :
    Ideal.ofBits .f32 0x3F000000#32 + Ideal.ofBits .f32 0x3F000000#32 * Ideal.tanh (Ideal.ofBits .f32 0x3F000000#32 * v)
      = Ideal.div 1 (1 + Ideal.exp (-v)) := by
  rw [half]
  induction v with
  | bot =>
    rw [EReal.coe_mul_bot_of_pos (by norm_num), EReal.neg_bot, Ideal.tanh_bot, Ideal.exp_top]
    rw [show (1 : EReal) + ⊤ = ⊤ from rfl, Ideal.div, if_neg (by simp), EReal.inv_top, mul_zero]
    rw [show (-1 : EReal) = ((-1 : ℝ) : EReal) by simp]
    norm_cast; norm_num
  | top =>
    rw [EReal.coe_mul_top_of_pos (by norm_num), EReal.neg_top, Ideal.tanh_top, Ideal.exp_bot, add_zero, mul_one]
    rw [← EReal.coe_one, Ideal.div_coe one_ne_zero]
    norm_cast; norm_num
  | coe r =>
    rw [← EReal.coe_mul, Ideal.tanh_coe, ← EReal.coe_neg, Ideal.exp_coe, ← EReal.coe_one, ← EReal.coe_add,
      Ideal.div_coe (by positivity), ← EReal.coe_mul, ← EReal.coe_add, ← EReal.coe_mul, real_sigmoid]
    norm_num

/-- The silu written with one hyperbolic tangent is `v * sigmoid v`, at every extended real but -∞. -/
theorem silu (v : EReal) (hv : v ≠ ⊥) :
    Ideal.ofBits .f32 0x3F000000#32 * v + Ideal.ofBits .f32 0x3F000000#32 * v * Ideal.tanh (Ideal.ofBits .f32 0x3F000000#32 * v)
      = v * Ideal.div 1 (1 + Ideal.exp (-v)) := by
  rw [← sigmoid, half]
  induction v with
  | bot => exact absurd rfl hv
  | top =>
    rw [EReal.coe_mul_top_of_pos (by norm_num), Ideal.tanh_top, mul_one, mul_one, ← EReal.coe_add,
      EReal.top_mul_coe_of_pos (by norm_num)]
    rfl
  | coe r =>
    rw [← EReal.coe_mul, Ideal.tanh_coe]
    norm_cast
    ring

end Cert.Scalars

end
-- ==== Proof.RetSpec.lean ====
/-
  One head's retention over plain functions: the state that grows chunk by chunk, what a chunk gives before the norm,
  and the normalized, gated result; and the kernel's tiles as these functions.
-/
module

public import proofs.«01_k».proof.Proof.RetTile
public import proofs.«01_k».proof.Proof.Scalars

@[expose] public section

set_option maxRecDepth 16384

noncomputable section

namespace Cert.Ret

open Idealize.ShloMosaic Idealize.ShloMosaic.TcCoe Idealize.SL.Sem
open Cert.KernelIdeal Cert.KernelIdeal.Gen

/-- Row `l` of chunk `n`. -/
def row (n : ℕ) (l : Fin 128) : Fin 2048 := ⟨(128 * n + l.val) % 2048, Nat.mod_lt _ (by decide)⟩

/-- The state before chunk `n`. -/
def st (cd : EReal) (K : Fin 2048 → Fin 128 → EReal) (V : Fin 2048 → Fin 256 → EReal) (kd : Fin 128 → EReal) :
    ℕ → Fin 128 → Fin 256 → EReal
  | 0 => fun _ _ => 0
  | n + 1 => fun d e => cd * st cd K V kd n d e + ∑ l, K (row n l) d * kd l * V (row n l) e

/-- What row `l` of chunk `n` gives before the norm. -/
def mix (cd : EReal) (Q K : Fin 2048 → Fin 128 → EReal) (V : Fin 2048 → Fin 256 → EReal) (D : Fin 128 → Fin 128 → EReal)
    (qd kd : Fin 128 → EReal) (n : ℕ) (l : Fin 128) (e : Fin 256) : EReal :=
  ∑ j, (∑ d, Q (row n l) d * K (row n j) d) * D l j * V (row n j) e + ∑ d, Q (row n l) d * qd l * st cd K V kd n d e

/-- The group norm of a row `y`, scaled by `g` and gated by `q` times its logistic function. -/
def gated (y : Fin 256 → EReal) (g q : EReal) (e : Fin 256) : EReal :=
  (y e - Ideal.div (∑ x, y x) (Ideal.ofBits FTy.f32 0x43800000#32)) *
      Ideal.rsqrt
        (Ideal.div
            (∑ x, (y x - Ideal.div (∑ x, y x) (Ideal.ofBits FTy.f32 0x43800000#32)) *
                (y x - Ideal.div (∑ x, y x) (Ideal.ofBits FTy.f32 0x43800000#32)))
            (Ideal.ofBits FTy.f32 0x43800000#32) + Ideal.ofBits FTy.f32 0x358637BD#32) * g *
    (q * Ideal.div 1 (1 + Ideal.exp (-q)))

/-- The two spellings of one half. -/
theorem half_bits : Ideal.ofBits .bf16 0x3F00#16 = Ideal.ofBits .f32 0x3F000000#32 := by
  rw [Scalars.half]
  simp [Ideal.ofBits, Ideal.ieee]
  rw [← EReal.coe_mul]
  norm_num

/-- Row `l` of the 128 rows at the start of chunk `n`. -/
theorem rows_apply (X : Vec Ideal S2048x128 .f32) (n : ℕ) (l d : Fin 128) : rows X (128 * n) (ix2 l d) = X (ix2 (row n l) d) := rfl

/-- The same of a rank-three block. -/
theorem wide_apply (X : Vec Ideal S1x2048x256 .bf16) (n : ℕ) (l : Fin 128) (e : Fin 256) :
    wide X (128 * n) (ix3 0 l e) = X (ix3 0 (row n l) e) := rfl

/-- The kernel's state is the state over plain functions. -/
theorem state_apply (cd : Elt Ideal .f32) (KF : Vec Ideal S2048x128 .f32) (VV : Vec Ideal S1x2048x256 .bf16) (kd : Vec Ideal S1x128x128 .f32)
    (kd' : Fin 128 → EReal) (hkd : ∀ l d, kd (ix3 0 l d) = kd' l) (n : ℕ) : ∀ (d : Fin 128) (e : Fin 256), state cd KF VV kd n (ix2 d e) =
      st cd (fun s d => KF (ix2 s d)) (fun s e => VV (ix3 0 s e)) kd' n d e := by
  induction n with
  | zero => intro d e; unfold state st; pointwise [k0_pay86]
  | succ n ih =>
    intro d e
    unfold state st
    rw [← ih]
    generalize state cd KF VV kd n = S
    pointwise [k0_pay89, k0_pay38, k0_pay36]
    simp only [rows_apply, wide_apply, hkd]

/-- What the kernel's chunk gives before the norm. -/
theorem mixed_apply (cd : Elt Ideal .f32) (QF KF : Vec Ideal S2048x128 .f32) (VV : Vec Ideal S1x2048x256 .bf16)
    (D qd kd : Vec Ideal S1x128x128 .f32) (qd' kd' : Fin 128 → EReal) (hqd : ∀ l d, qd (ix3 0 l d) = qd' l)
    (hkd : ∀ l d, kd (ix3 0 l d) = kd' l) (n : ℕ) (l : Fin 128) (e : Fin 256) : mixed cd QF KF VV D qd kd n (ix2 l e) =
      mix cd (fun s d => QF (ix2 s d)) (fun s d => KF (ix2 s d)) (fun s e => VV (ix3 0 s e)) (fun l j => D (ix3 0 l j)) qd' kd' n l e := by
  unfold mix
  simp only [← state_apply cd KF VV kd kd' hkd]
  unfold mixed
  generalize state cd KF VV kd n = S
  pointwise [k0_pay94, k0_pay34, k0_pay13, k0_pay33, k0_pay92]
  simp only [rows_apply, wide_apply, hqd]

/-- What the kernel's chunk stores, for a gate that isn't minus infinity. -/
theorem tile_apply (cd : Elt Ideal .f32) (QF KF : Vec Ideal S2048x128 .f32) (VV GG : Vec Ideal S1x2048x256 .bf16)
    (D qd kd : Vec Ideal S1x128x128 .f32) (gn : Vec Ideal S1x256 .f32) (n : ℕ) (l : Fin 128) (e : Fin 256)
    (hg : GG (ix3 0 (row n l) e) ≠ (⊥ : EReal)) :
    tile cd QF KF VV GG D qd kd gn n (ix3 0 l e) =
      gated (fun e => mixed cd QF KF VV D qd kd n (ix2 l e)) (gn (ix2 0 e)) (GG (ix3 0 (row n l) e)) e := by
  unfold tile gated
  generalize mixed cd QF KF VV D qd kd n = Y
  pointwise [k0_pay136]
  rw [half_bits, wide_apply, Scalars.silu _ hg]

end Cert.Ret
end
-- ==== Proof.RetRef.lean ====
/-
  The reference's retention, array by array: its result is the normalized, gated retention over plain functions.
-/
module

public import proofs.«01_k».proof.Proof.RetSpec
public import proofs.«01_k».proof.Proof.Gen.ReferenceIdeal.Read

@[expose] public section

set_option maxRecDepth 16384

noncomputable section

namespace Cert.Ret

open Idealize.ShloMosaic Idealize.ShloMosaic.TcCoe
open Cert.ReferenceIdeal Cert.ReferenceIdeal.Gen Cert.ReferenceIdeal.Read

variable (x0 : FVec Ideal S4x2048x13312 .bf16) (x1 : FVec Ideal S1x2048 .f32)

/-- Column `256 h + e` of a result is column `e` of head `h`. -/
theorem ref_heads (b : Fin 4) (h : Fin 8) (s : Fin 2048) (e : Fin 256) :
    val_main_v265 (F := Ideal) x0 (ix3 b s (⟨256 * h.val + e.val, by omega⟩ : Fin 2048)) = val_main_v263 (F := Ideal) x0 (ix4 b h s e) := by
  rw [val_main_v265_apply, val_main_v264_apply]
  exact congrArg _ (by blk_ext [])

/-- The gain of column `256 h + e`. -/
theorem ref_gain (b : Fin 4) (h : Fin 8) (s : Fin 2048) (e : Fin 256) :
    val_main_v267 (F := Ideal) x1 (ix3 b s (⟨256 * h.val + e.val, by omega⟩ : Fin 2048)) = x1 (ix2 0 (⟨256 * h.val + e.val, by omega⟩ : Fin 2048)) := by
  rw [val_main_v267_apply, val_main_v266_apply, val_main_v245_apply]
  exact congrArg _ (by blk_ext [])

/-- The gate of column `256 h + e`. -/
theorem ref_gate (b : Fin 4) (h : Fin 8) (s : Fin 2048) (e : Fin 256) :
    val_main_v8 (F := Ideal) x0 (ix3 b s (⟨256 * h.val + e.val, by omega⟩ : Fin 2048)) = x0 (ix3 b s (⟨7168 + (256 * h.val + e.val), by omega⟩ : Fin 13312)) := by
  rw [val_main_v8_apply, val_main_v1_apply]
  exact congrArg _ (by blk_ext [])

/-- The gate times its logistic function. -/
theorem ref_silu (i : S4x2048x2048.Idx) : val_main_v269 (F := Ideal) x0 i =
    val_main_v8 (F := Ideal) x0 i * Ideal.div 1 (1 + Ideal.exp (-(val_main_v8 (F := Ideal) x0 i))) := by
  rw [val_main_v269_apply, val_main_call1_v5_apply, val_main_call1_v4_apply, val_main_call1_cst_0_apply, val_main_call1_v3_apply, val_main_call1_v2_apply,
    val_main_call1_cst_apply, val_main_call1_v1_apply, val_main_call1_v0_apply]
  generalize val_main_v8 (F := Ideal) x0 = Y
  pointwise []

/-- The mean of a head's row. -/
theorem ref_mean (b : Fin 4) (h : Fin 8) (s : Fin 2048) (u : Fin 1) :
    val_main_v249 (F := Ideal) x0 (ix4 b h s u)
      = Ideal.div (∑ k, val_main_v244 (F := Ideal) x0 (ix4 b h s k)) (Ideal.ofBits FTy.f32 0x43800000#32) := by
  rw [val_main_v249_apply, val_main_v247_apply, val_main_v246_apply, val_main_v248_apply, val_main_cst_15_apply,
    val_main_cst_14_apply]
  generalize val_main_v244 (F := Ideal) x0 = Y
  pointwise []
  refine congrArg (fun z => Ideal.div z _) (Finset.sum_congr rfl fun k _ => congrArg Y (by blk_ext []))

/-- A row less its mean. -/
theorem ref_centred (b : Fin 4) (h : Fin 8) (s : Fin 2048) (e : Fin 256) :
    val_main_v251 (F := Ideal) x0 (ix4 b h s e) = val_main_v244 (F := Ideal) x0 (ix4 b h s e)
      - Ideal.div (∑ k, val_main_v244 (F := Ideal) x0 (ix4 b h s k)) (Ideal.ofBits FTy.f32 0x43800000#32) := by
  rw [val_main_v251_apply, val_main_v250_apply, ← ref_mean x0 b h s 0]
  refine congrArg (fun z => val_main_v244 (F := Ideal) x0 (ix4 b h s e) - z) (congrArg _ (by blk_ext []))

/-- The same, as the norm's numerator. -/
theorem ref_centred' (b : Fin 4) (h : Fin 8) (s : Fin 2048) (e : Fin 256) :
    val_main_v258 (F := Ideal) x0 (ix4 b h s e) = val_main_v244 (F := Ideal) x0 (ix4 b h s e)
      - Ideal.div (∑ k, val_main_v244 (F := Ideal) x0 (ix4 b h s k)) (Ideal.ofBits FTy.f32 0x43800000#32) := by
  rw [val_main_v258_apply, val_main_v257_apply, ← ref_mean x0 b h s 0]
  refine congrArg (fun z => val_main_v244 (F := Ideal) x0 (ix4 b h s e) - z) (congrArg _ (by blk_ext []))

/-- The variance of a head's row. -/
theorem ref_var (b : Fin 4) (h : Fin 8) (s : Fin 2048) (u : Fin 1) :
    val_main_v256 (F := Ideal) x0 (ix4 b h s u)
      = Ideal.div (∑ k, val_main_v251 (F := Ideal) x0 (ix4 b h s k) * val_main_v251 (F := Ideal) x0 (ix4 b h s k)) (Ideal.ofBits FTy.f32 0x43800000#32) := by
  have hk : ∀ i, val_main_v252 (F := Ideal) x0 i = val_main_v251 (F := Ideal) x0 i * val_main_v251 (F := Ideal) x0 i := by
    intro i
    rw [val_main_v252_apply]
    generalize val_main_v251 (F := Ideal) x0 = Y
    pointwise []
  simp only [← hk]
  rw [val_main_v256_apply, val_main_v254_apply, val_main_v253_apply, val_main_v255_apply, val_main_cst_17_apply,
    val_main_cst_16_apply]
  generalize val_main_v252 (F := Ideal) x0 = Y
  pointwise []
  refine congrArg (fun z => Ideal.div z _) (Finset.sum_congr rfl fun k _ => congrArg Y (by blk_ext []))

/-- One over the root of the variance and the norm's small constant. -/
theorem ref_rsqrt (b : Fin 4) (h : Fin 8) (s : Fin 2048) (e : Fin 256) :
    val_main_v262 (F := Ideal) x0 (ix4 b h s e) =
      Ideal.rsqrt (val_main_v256 (F := Ideal) x0 (ix4 b h s 0) + Ideal.ofBits FTy.f32 0x358637BD#32) := by
  have hi : idx_main_v262 (ix4 b h s e) = ix4 b h s 0 := by blk_ext []
  rw [val_main_v262_apply, val_main_v261_apply, val_main_v260_apply, val_main_v259_apply, val_main_cst_18_apply, hi]
  generalize val_main_v256 (F := Ideal) x0 = Y
  pointwise []

/-- A column of the reference's result: the head's row, normalized, scaled and gated. -/
theorem ref_out (b : Fin 4) (h : Fin 8) (s : Fin 2048) (e : Fin 256) :
    val_main_v271 (F := Ideal) x0 x1 (ix3 b s (⟨256 * h.val + e.val, by omega⟩ : Fin 2048)) =
      gated (fun e => val_main_v244 (F := Ideal) x0 (ix4 b h s e)) (x1 (ix2 0 (⟨256 * h.val + e.val, by omega⟩ : Fin 2048)))
        (x0 (ix3 b s (⟨7168 + (256 * h.val + e.val), by omega⟩ : Fin 13312))) e := by
  unfold gated
  rw [← ref_gate x0 b h s e, ← ref_gain x1 b h s e, ← ref_silu x0, val_main_v271_apply, val_main_v270_apply, val_main_v268_apply, ref_heads, val_main_v263_apply, ref_centred',
    ref_rsqrt, ref_var]
  simp only [ref_centred]
  rfl

/-- Row `l` of chunk `n`, of sixteen chunks. -/
theorem row_val (n : Fin 16) (l : Fin 128) : (row n.val l).val = 128 * n.val + l.val := by
  unfold row
  show (128 * n.val + l.val) % 2048 = _
  omega

/-- Row `l` of chunk `n` before the norm. -/
theorem ref_chunk (b : Fin 4) (h : Fin 8) (n : Fin 16) (l : Fin 128) (e : Fin 256) :
    val_main_v244 (F := Ideal) x0 (ix4 b h (row n.val l) e) = val_main_v243 (F := Ideal) x0 (ix5 b h n l e) := by
  rw [val_main_v244_apply]
  have hr := row_val n l
  exact congrArg _ (by blk_ext [hr])

/-- The chunks of the queries. -/
theorem ref_q (b : Fin 4) (h : Fin 8) (n : Fin 16) (l : Fin 128) (d : Fin 128) :
    val_main_v126 (F := Ideal) x0 (ix5 b h n l d) = val_main_v43 (F := Ideal) x0 (ix4 b h (row n.val l) d) := by
  rw [val_main_v126_apply]
  have hr := row_val n l
  exact congrArg _ (by blk_ext [hr])

/-- The chunks of the keys. -/
theorem ref_k (b : Fin 4) (h : Fin 8) (n : Fin 16) (l : Fin 128) (d : Fin 128) :
    val_main_v127 (F := Ideal) x0 (ix5 b h n l d) = val_main_v78 (F := Ideal) x0 (ix4 b h (row n.val l) d) := by
  rw [val_main_v127_apply]
  have hr := row_val n l
  exact congrArg _ (by blk_ext [hr])

/-- The chunks of the values. -/
theorem ref_v (b : Fin 4) (h : Fin 8) (n : Fin 16) (l : Fin 128) (e : Fin 256) :
    val_main_v128 (F := Ideal) x0 (ix5 b h n l e) = val_main_v80 (F := Ideal) x0 (ix4 b h (row n.val l) e) := by
  rw [val_main_v128_apply]
  have hr := row_val n l
  exact congrArg _ (by blk_ext [hr])

/-- The values, by columns of the projections. -/
theorem ref_values (b : Fin 4) (h : Fin 8) (s : Fin 2048) (e : Fin 256) :
    val_main_v80 (F := Ideal) x0 (ix4 b h s e) = x0 (ix3 b s (⟨5120 + (256 * h.val + e.val), by omega⟩ : Fin 13312)) := by
  rw [val_main_v80_apply, val_main_v79_apply, val_main_v7_apply, val_main_v1_apply]
  exact congrArg _ (by blk_ext [])

/-- The mask, along the batch and the chunks. -/
theorem ref_mask (b : Fin 4) (h : Fin 8) (n : Fin 16) (l j : Fin 128) :
    val_main_v132 (F := Ideal) (ix5 b h n l j) = val_main_v105 (F := Ideal) (ix3 h l j) := by
  rw [val_main_v132_apply, val_main_v131_apply, val_main_v130_apply]
  exact congrArg _ (by blk_ext [])

/-- The queries' decay, along the batch, the chunks and the lanes. -/
theorem ref_qdec (b : Fin 4) (h : Fin 8) (n : Fin 16) (l d : Fin 128) :
    val_main_v240 (F := Ideal) (ix5 b h n l d) = val_main_v113 (F := Ideal) (ix2 h l) := by
  rw [val_main_v240_apply, val_main_v239_apply, val_main_v238_apply]
  exact congrArg _ (by blk_ext [])

/-- The keys' decay, along the batch, the chunks and the lanes. -/
theorem ref_kdec (b : Fin 4) (h : Fin 8) (n : Fin 16) (l d : Fin 128) :
    val_main_v137 (F := Ideal) (ix5 b h n l d) = val_main_v121 (F := Ideal) (ix2 h l) := by
  rw [val_main_v137_apply, val_main_v136_apply, val_main_v135_apply]
  exact congrArg _ (by blk_ext [])

/-- The masked scores of a chunk. -/
theorem ref_scores (b : Fin 4) (h : Fin 8) (n : Fin 16) (l j : Fin 128) :
    val_main_v133 (F := Ideal) x0 (ix5 b h n l j) =
      (∑ d, val_main_v43 (F := Ideal) x0 (ix4 b h (row n.val l) d) * val_main_v78 (F := Ideal) x0 (ix4 b h (row n.val j) d))
        * val_main_v105 (F := Ideal) (ix3 h l j) := by
  rw [val_main_v133_apply, ref_mask, val_main_v129_apply]
  refine congrArg (fun z => z * val_main_v105 (F := Ideal) (ix3 h l j)) (Finset.sum_congr rfl fun d _ => ?_)
  rw [← ref_q, ← ref_k]
  exact congrArg₂ (fun a b => a * b) (congrArg _ (by blk_ext [])) (congrArg _ (by blk_ext []))

/-- The scores times the values. -/
theorem ref_inner (b : Fin 4) (h : Fin 8) (n : Fin 16) (l : Fin 128) (e : Fin 256) :
    val_main_v134 (F := Ideal) x0 (ix5 b h n l e) =
      ∑ j, val_main_v133 (F := Ideal) x0 (ix5 b h n l j) * val_main_v80 (F := Ideal) x0 (ix4 b h (row n.val j) e) := by
  rw [val_main_v134_apply]
  refine Finset.sum_congr rfl fun j _ => ?_
  rw [← ref_v]
  exact congrArg₂ (fun a b => a * b) (congrArg _ (by blk_ext [])) (congrArg _ (by blk_ext []))

/-- The decayed queries times the state. -/
theorem ref_cross (b : Fin 4) (h : Fin 8) (n : Fin 16) (l : Fin 128) (e : Fin 256) :
    val_main_v242 (F := Ideal) x0 (ix5 b h n l e) =
      ∑ d, val_main_v43 (F := Ideal) x0 (ix4 b h (row n.val l) d) * val_main_v113 (F := Ideal) (ix2 h l)
        * val_main_v237 (F := Ideal) x0 (ix5 n b h d e) := by
  rw [val_main_v242_apply]
  refine Finset.sum_congr rfl fun d _ => ?_
  rw [← ref_q, ← ref_qdec b h n l d]
  have hl : lidx_main_v242 (ix5 b h n l e) d = ix5 b h n l d := by blk_ext []
  have hr : ridx_main_v242 (ix5 b h n l e) d = ix5 n b h d e := by blk_ext []
  rw [hl, hr, val_main_v241_apply]
  rfl

/-- What a chunk adds to the state. -/
theorem ref_kv (b : Fin 4) (h : Fin 8) (n : Fin 16) (d : Fin 128) (e : Fin 256) :
    val_main_v139 (F := Ideal) x0 (ix5 n b h d e) =
      ∑ l, val_main_v78 (F := Ideal) x0 (ix4 b h (row n.val l) d) * val_main_v121 (F := Ideal) (ix2 h l)
        * val_main_v80 (F := Ideal) x0 (ix4 b h (row n.val l) e) := by
  rw [val_main_v139_apply]
  refine Finset.sum_congr rfl fun l _ => ?_
  rw [← ref_k, ← ref_v, ← ref_kdec b h n l d]
  have hl : lidx_main_v139 (ix5 n b h d e) l = ix5 b h n l d := by blk_ext []
  have hr : ridx_main_v139 (ix5 n b h d e) l = ix5 b h n l e := by blk_ext []
  rw [hl, hr, val_main_v138_apply]
  rfl

/-- The chunk's decay, along the batch and the state. -/
theorem ref_dec (h : Fin 8) : val_main_v125 (F := Ideal) (ix4 0 h 0 0) = val_main_v124 (F := Ideal) (ix1 h) := by
  rw [val_main_v125_apply]
  exact congrArg _ (by blk_ext [])

/-- The head's state before chunk `n`, over the reference's arrays. -/
abbrev rst (b : Fin 4) (h : Fin 8) : ℕ → Fin 128 → Fin 256 → EReal :=
  st (val_main_v124 (F := Ideal) (ix1 h)) (fun s d => val_main_v78 (F := Ideal) x0 (ix4 b h s d)) (fun s e => val_main_v80 (F := Ideal) x0 (ix4 b h s e))
    (fun l => val_main_v121 (F := Ideal) (ix2 h l))

/-- The state starts at nothing. -/
theorem rst_0 (b : Fin 4) (h : Fin 8) (d : Fin 128) (e : Fin 256) : val_main_v140 (F := Ideal) (ix4 b h d e) = rst x0 b h 0 d e := by
  rw [val_main_v140_apply, val_main_cst_13_apply]
  unfold rst st
  pointwise []

/-- The state before chunk 1. -/
theorem rst_1 (b : Fin 4) (h : Fin 8) (d : Fin 128) (e : Fin 256) : val_main_v145 (F := Ideal) x0 (ix4 b h d e) = rst x0 b h 1 d e := by
  have hs : rst x0 b h 1 d e = val_main_v124 (F := Ideal) (ix1 h) * rst x0 b h 0 d e + val_main_v139 (F := Ideal) x0 (ix5 0 b h d e) := by
    rw [ref_kv]; rfl
  have hd : idx_main_v141 (ix4 b h d e) = ix4 0 h 0 0 := by blk_ext []
  have hk : idx_main_v143 (idx_main_v144 (ix4 b h d e)) = ix5 0 b h d e := by blk_ext []
  rw [hs, ← rst_0, val_main_v145_apply, val_main_v142_apply, val_main_v141_apply, val_main_v144_apply, val_main_v143_apply, hd, hk, ref_dec]
  rfl

/-- The state before chunk 2. -/
theorem rst_2 (b : Fin 4) (h : Fin 8) (d : Fin 128) (e : Fin 256) : val_main_v150 (F := Ideal) x0 (ix4 b h d e) = rst x0 b h 2 d e := by
  have hs : rst x0 b h 2 d e = val_main_v124 (F := Ideal) (ix1 h) * rst x0 b h 1 d e + val_main_v139 (F := Ideal) x0 (ix5 1 b h d e) := by
    rw [ref_kv]; rfl
  have hd : idx_main_v146 (ix4 b h d e) = ix4 0 h 0 0 := by blk_ext []
  have hk : idx_main_v148 (idx_main_v149 (ix4 b h d e)) = ix5 1 b h d e := by blk_ext []
  rw [hs, ← rst_1, val_main_v150_apply, val_main_v147_apply, val_main_v146_apply, val_main_v149_apply, val_main_v148_apply, hd, hk, ref_dec]
  rfl

/-- The state before chunk 3. -/
theorem rst_3 (b : Fin 4) (h : Fin 8) (d : Fin 128) (e : Fin 256) : val_main_v155 (F := Ideal) x0 (ix4 b h d e) = rst x0 b h 3 d e := by
  have hs : rst x0 b h 3 d e = val_main_v124 (F := Ideal) (ix1 h) * rst x0 b h 2 d e + val_main_v139 (F := Ideal) x0 (ix5 2 b h d e) := by
    rw [ref_kv]; rfl
  have hd : idx_main_v151 (ix4 b h d e) = ix4 0 h 0 0 := by blk_ext []
  have hk : idx_main_v153 (idx_main_v154 (ix4 b h d e)) = ix5 2 b h d e := by blk_ext []
  rw [hs, ← rst_2, val_main_v155_apply, val_main_v152_apply, val_main_v151_apply, val_main_v154_apply, val_main_v153_apply, hd, hk, ref_dec]
  rfl

/-- The state before chunk 4. -/
theorem rst_4 (b : Fin 4) (h : Fin 8) (d : Fin 128) (e : Fin 256) : val_main_v160 (F := Ideal) x0 (ix4 b h d e) = rst x0 b h 4 d e := by
  have hs : rst x0 b h 4 d e = val_main_v124 (F := Ideal) (ix1 h) * rst x0 b h 3 d e + val_main_v139 (F := Ideal) x0 (ix5 3 b h d e) := by
    rw [ref_kv]; rfl
  have hd : idx_main_v156 (ix4 b h d e) = ix4 0 h 0 0 := by blk_ext []
  have hk : idx_main_v158 (idx_main_v159 (ix4 b h d e)) = ix5 3 b h d e := by blk_ext []
  rw [hs, ← rst_3, val_main_v160_apply, val_main_v157_apply, val_main_v156_apply, val_main_v159_apply, val_main_v158_apply, hd, hk, ref_dec]
  rfl

/-- The state before chunk 5. -/
theorem rst_5 (b : Fin 4) (h : Fin 8) (d : Fin 128) (e : Fin 256) : val_main_v165 (F := Ideal) x0 (ix4 b h d e) = rst x0 b h 5 d e := by
  have hs : rst x0 b h 5 d e = val_main_v124 (F := Ideal) (ix1 h) * rst x0 b h 4 d e + val_main_v139 (F := Ideal) x0 (ix5 4 b h d e) := by
    rw [ref_kv]; rfl
  have hd : idx_main_v161 (ix4 b h d e) = ix4 0 h 0 0 := by blk_ext []
  have hk : idx_main_v163 (idx_main_v164 (ix4 b h d e)) = ix5 4 b h d e := by blk_ext []
  rw [hs, ← rst_4, val_main_v165_apply, val_main_v162_apply, val_main_v161_apply, val_main_v164_apply, val_main_v163_apply, hd, hk, ref_dec]
  rfl

/-- The state before chunk 6. -/
theorem rst_6 (b : Fin 4) (h : Fin 8) (d : Fin 128) (e : Fin 256) : val_main_v170 (F := Ideal) x0 (ix4 b h d e) = rst x0 b h 6 d e := by
  have hs : rst x0 b h 6 d e = val_main_v124 (F := Ideal) (ix1 h) * rst x0 b h 5 d e + val_main_v139 (F := Ideal) x0 (ix5 5 b h d e) := by
    rw [ref_kv]; rfl
  have hd : idx_main_v166 (ix4 b h d e) = ix4 0 h 0 0 := by blk_ext []
  have hk : idx_main_v168 (idx_main_v169 (ix4 b h d e)) = ix5 5 b h d e := by blk_ext []
  rw [hs, ← rst_5, val_main_v170_apply, val_main_v167_apply, val_main_v166_apply, val_main_v169_apply, val_main_v168_apply, hd, hk, ref_dec]
  rfl

/-- The state before chunk 7. -/
theorem rst_7 (b : Fin 4) (h : Fin 8) (d : Fin 128) (e : Fin 256) : val_main_v175 (F := Ideal) x0 (ix4 b h d e) = rst x0 b h 7 d e := by
  have hs : rst x0 b h 7 d e = val_main_v124 (F := Ideal) (ix1 h) * rst x0 b h 6 d e + val_main_v139 (F := Ideal) x0 (ix5 6 b h d e) := by
    rw [ref_kv]; rfl
  have hd : idx_main_v171 (ix4 b h d e) = ix4 0 h 0 0 := by blk_ext []
  have hk : idx_main_v173 (idx_main_v174 (ix4 b h d e)) = ix5 6 b h d e := by blk_ext []
  rw [hs, ← rst_6, val_main_v175_apply, val_main_v172_apply, val_main_v171_apply, val_main_v174_apply, val_main_v173_apply, hd, hk, ref_dec]
  rfl

/-- The state before chunk 8. -/
theorem rst_8 (b : Fin 4) (h : Fin 8) (d : Fin 128) (e : Fin 256) : val_main_v180 (F := Ideal) x0 (ix4 b h d e) = rst x0 b h 8 d e := by
  have hs : rst x0 b h 8 d e = val_main_v124 (F := Ideal) (ix1 h) * rst x0 b h 7 d e + val_main_v139 (F := Ideal) x0 (ix5 7 b h d e) := by
    rw [ref_kv]; rfl
  have hd : idx_main_v176 (ix4 b h d e) = ix4 0 h 0 0 := by blk_ext []
  have hk : idx_main_v178 (idx_main_v179 (ix4 b h d e)) = ix5 7 b h d e := by blk_ext []
  rw [hs, ← rst_7, val_main_v180_apply, val_main_v177_apply, val_main_v176_apply, val_main_v179_apply, val_main_v178_apply, hd, hk, ref_dec]
  rfl

/-- The state before chunk 9. -/
theorem rst_9 (b : Fin 4) (h : Fin 8) (d : Fin 128) (e : Fin 256) : val_main_v185 (F := Ideal) x0 (ix4 b h d e) = rst x0 b h 9 d e := by
  have hs : rst x0 b h 9 d e = val_main_v124 (F := Ideal) (ix1 h) * rst x0 b h 8 d e + val_main_v139 (F := Ideal) x0 (ix5 8 b h d e) := by
    rw [ref_kv]; rfl
  have hd : idx_main_v181 (ix4 b h d e) = ix4 0 h 0 0 := by blk_ext []
  have hk : idx_main_v183 (idx_main_v184 (ix4 b h d e)) = ix5 8 b h d e := by blk_ext []
  rw [hs, ← rst_8, val_main_v185_apply, val_main_v182_apply, val_main_v181_apply, val_main_v184_apply, val_main_v183_apply, hd, hk, ref_dec]
  rfl

/-- The state before chunk 10. -/
theorem rst_10 (b : Fin 4) (h : Fin 8) (d : Fin 128) (e : Fin 256) : val_main_v190 (F := Ideal) x0 (ix4 b h d e) = rst x0 b h 10 d e := by
  have hs : rst x0 b h 10 d e = val_main_v124 (F := Ideal) (ix1 h) * rst x0 b h 9 d e + val_main_v139 (F := Ideal) x0 (ix5 9 b h d e) := by
    rw [ref_kv]; rfl
  have hd : idx_main_v186 (ix4 b h d e) = ix4 0 h 0 0 := by blk_ext []
  have hk : idx_main_v188 (idx_main_v189 (ix4 b h d e)) = ix5 9 b h d e := by blk_ext []
  rw [hs, ← rst_9, val_main_v190_apply, val_main_v187_apply, val_main_v186_apply, val_main_v189_apply, val_main_v188_apply, hd, hk, ref_dec]
  rfl

/-- The state before chunk 11. -/
theorem rst_11 (b : Fin 4) (h : Fin 8) (d : Fin 128) (e : Fin 256) : val_main_v195 (F := Ideal) x0 (ix4 b h d e) = rst x0 b h 11 d e := by
  have hs : rst x0 b h 11 d e = val_main_v124 (F := Ideal) (ix1 h) * rst x0 b h 10 d e + val_main_v139 (F := Ideal) x0 (ix5 10 b h d e) := by
    rw [ref_kv]; rfl
  have hd : idx_main_v191 (ix4 b h d e) = ix4 0 h 0 0 := by blk_ext []
  have hk : idx_main_v193 (idx_main_v194 (ix4 b h d e)) = ix5 10 b h d e := by blk_ext []
  rw [hs, ← rst_10, val_main_v195_apply, val_main_v192_apply, val_main_v191_apply, val_main_v194_apply, val_main_v193_apply, hd, hk, ref_dec]
  rfl

/-- The state before chunk 12. -/
theorem rst_12 (b : Fin 4) (h : Fin 8) (d : Fin 128) (e : Fin 256) : val_main_v200 (F := Ideal) x0 (ix4 b h d e) = rst x0 b h 12 d e := by
  have hs : rst x0 b h 12 d e = val_main_v124 (F := Ideal) (ix1 h) * rst x0 b h 11 d e + val_main_v139 (F := Ideal) x0 (ix5 11 b h d e) := by
    rw [ref_kv]; rfl
  have hd : idx_main_v196 (ix4 b h d e) = ix4 0 h 0 0 := by blk_ext []
  have hk : idx_main_v198 (idx_main_v199 (ix4 b h d e)) = ix5 11 b h d e := by blk_ext []
  rw [hs, ← rst_11, val_main_v200_apply, val_main_v197_apply, val_main_v196_apply, val_main_v199_apply, val_main_v198_apply, hd, hk, ref_dec]
  rfl

/-- The state before chunk 13. -/
theorem rst_13 (b : Fin 4) (h : Fin 8) (d : Fin 128) (e : Fin 256) : val_main_v205 (F := Ideal) x0 (ix4 b h d e) = rst x0 b h 13 d e := by
  have hs : rst x0 b h 13 d e = val_main_v124 (F := Ideal) (ix1 h) * rst x0 b h 12 d e + val_main_v139 (F := Ideal) x0 (ix5 12 b h d e) := by
    rw [ref_kv]; rfl
  have hd : idx_main_v201 (ix4 b h d e) = ix4 0 h 0 0 := by blk_ext []
  have hk : idx_main_v203 (idx_main_v204 (ix4 b h d e)) = ix5 12 b h d e := by blk_ext []
  rw [hs, ← rst_12, val_main_v205_apply, val_main_v202_apply, val_main_v201_apply, val_main_v204_apply, val_main_v203_apply, hd, hk, ref_dec]
  rfl

/-- The state before chunk 14. -/
theorem rst_14 (b : Fin 4) (h : Fin 8) (d : Fin 128) (e : Fin 256) : val_main_v210 (F := Ideal) x0 (ix4 b h d e) = rst x0 b h 14 d e := by
  have hs : rst x0 b h 14 d e = val_main_v124 (F := Ideal) (ix1 h) * rst x0 b h 13 d e + val_main_v139 (F := Ideal) x0 (ix5 13 b h d e) := by
    rw [ref_kv]; rfl
  have hd : idx_main_v206 (ix4 b h d e) = ix4 0 h 0 0 := by blk_ext []
  have hk : idx_main_v208 (idx_main_v209 (ix4 b h d e)) = ix5 13 b h d e := by blk_ext []
  rw [hs, ← rst_13, val_main_v210_apply, val_main_v207_apply, val_main_v206_apply, val_main_v209_apply, val_main_v208_apply, hd, hk, ref_dec]
  rfl

/-- The state before chunk 15. -/
theorem rst_15 (b : Fin 4) (h : Fin 8) (d : Fin 128) (e : Fin 256) : val_main_v215 (F := Ideal) x0 (ix4 b h d e) = rst x0 b h 15 d e := by
  have hs : rst x0 b h 15 d e = val_main_v124 (F := Ideal) (ix1 h) * rst x0 b h 14 d e + val_main_v139 (F := Ideal) x0 (ix5 14 b h d e) := by
    rw [ref_kv]; rfl
  have hd : idx_main_v211 (ix4 b h d e) = ix4 0 h 0 0 := by blk_ext []
  have hk : idx_main_v213 (idx_main_v214 (ix4 b h d e)) = ix5 14 b h d e := by blk_ext []
  rw [hs, ← rst_14, val_main_v215_apply, val_main_v212_apply, val_main_v211_apply, val_main_v214_apply, val_main_v213_apply, hd, hk, ref_dec]
  rfl

/-- The stacked states: number 0. -/
theorem stack_0 (b : Fin 4) (h : Fin 8) (d : Fin 128) (e : Fin 256) : val_main_v221 (F := Ideal) (ix5 0 b h d e) = rst x0 b h 0 d e := by
  rw [val_main_v221_apply, ← rst_0]
  exact congrArg _ (by blk_ext [])

/-- The stacked states: number 1. -/
theorem stack_1 (b : Fin 4) (h : Fin 8) (d : Fin 128) (e : Fin 256) : val_main_v222 (F := Ideal) x0 (ix5 0 b h d e) = rst x0 b h 1 d e := by
  rw [val_main_v222_apply, ← rst_1]
  exact congrArg _ (by blk_ext [])

/-- The stacked states: number 2. -/
theorem stack_2 (b : Fin 4) (h : Fin 8) (d : Fin 128) (e : Fin 256) : val_main_v223 (F := Ideal) x0 (ix5 0 b h d e) = rst x0 b h 2 d e := by
  rw [val_main_v223_apply, ← rst_2]
  exact congrArg _ (by blk_ext [])

/-- The stacked states: number 3. -/
theorem stack_3 (b : Fin 4) (h : Fin 8) (d : Fin 128) (e : Fin 256) : val_main_v224 (F := Ideal) x0 (ix5 0 b h d e) = rst x0 b h 3 d e := by
  rw [val_main_v224_apply, ← rst_3]
  exact congrArg _ (by blk_ext [])

/-- The stacked states: number 4. -/
theorem stack_4 (b : Fin 4) (h : Fin 8) (d : Fin 128) (e : Fin 256) : val_main_v225 (F := Ideal) x0 (ix5 0 b h d e) = rst x0 b h 4 d e := by
  rw [val_main_v225_apply, ← rst_4]
  exact congrArg _ (by blk_ext [])

/-- The stacked states: number 5. -/
theorem stack_5 (b : Fin 4) (h : Fin 8) (d : Fin 128) (e : Fin 256) : val_main_v226 (F := Ideal) x0 (ix5 0 b h d e) = rst x0 b h 5 d e := by
  rw [val_main_v226_apply, ← rst_5]
  exact congrArg _ (by blk_ext [])

/-- The stacked states: number 6. -/
theorem stack_6 (b : Fin 4) (h : Fin 8) (d : Fin 128) (e : Fin 256) : val_main_v227 (F := Ideal) x0 (ix5 0 b h d e) = rst x0 b h 6 d e := by
  rw [val_main_v227_apply, ← rst_6]
  exact congrArg _ (by blk_ext [])

/-- The stacked states: number 7. -/
theorem stack_7 (b : Fin 4) (h : Fin 8) (d : Fin 128) (e : Fin 256) : val_main_v228 (F := Ideal) x0 (ix5 0 b h d e) = rst x0 b h 7 d e := by
  rw [val_main_v228_apply, ← rst_7]
  exact congrArg _ (by blk_ext [])

/-- The stacked states: number 8. -/
theorem stack_8 (b : Fin 4) (h : Fin 8) (d : Fin 128) (e : Fin 256) : val_main_v229 (F := Ideal) x0 (ix5 0 b h d e) = rst x0 b h 8 d e := by
  rw [val_main_v229_apply, ← rst_8]
  exact congrArg _ (by blk_ext [])

/-- The stacked states: number 9. -/
theorem stack_9 (b : Fin 4) (h : Fin 8) (d : Fin 128) (e : Fin 256) : val_main_v230 (F := Ideal) x0 (ix5 0 b h d e) = rst x0 b h 9 d e := by
  rw [val_main_v230_apply, ← rst_9]
  exact congrArg _ (by blk_ext [])

/-- The stacked states: number 10. -/
theorem stack_10 (b : Fin 4) (h : Fin 8) (d : Fin 128) (e : Fin 256) : val_main_v231 (F := Ideal) x0 (ix5 0 b h d e) = rst x0 b h 10 d e := by
  rw [val_main_v231_apply, ← rst_10]
  exact congrArg _ (by blk_ext [])

/-- The stacked states: number 11. -/
theorem stack_11 (b : Fin 4) (h : Fin 8) (d : Fin 128) (e : Fin 256) : val_main_v232 (F := Ideal) x0 (ix5 0 b h d e) = rst x0 b h 11 d e := by
  rw [val_main_v232_apply, ← rst_11]
  exact congrArg _ (by blk_ext [])

/-- The stacked states: number 12. -/
theorem stack_12 (b : Fin 4) (h : Fin 8) (d : Fin 128) (e : Fin 256) : val_main_v233 (F := Ideal) x0 (ix5 0 b h d e) = rst x0 b h 12 d e := by
  rw [val_main_v233_apply, ← rst_12]
  exact congrArg _ (by blk_ext [])

/-- The stacked states: number 13. -/
theorem stack_13 (b : Fin 4) (h : Fin 8) (d : Fin 128) (e : Fin 256) : val_main_v234 (F := Ideal) x0 (ix5 0 b h d e) = rst x0 b h 13 d e := by
  rw [val_main_v234_apply, ← rst_13]
  exact congrArg _ (by blk_ext [])

/-- The stacked states: number 14. -/
theorem stack_14 (b : Fin 4) (h : Fin 8) (d : Fin 128) (e : Fin 256) : val_main_v235 (F := Ideal) x0 (ix5 0 b h d e) = rst x0 b h 14 d e := by
  rw [val_main_v235_apply, ← rst_14]
  exact congrArg _ (by blk_ext [])

/-- The stacked states: number 15. -/
theorem stack_15 (b : Fin 4) (h : Fin 8) (d : Fin 128) (e : Fin 256) : val_main_v236 (F := Ideal) x0 (ix5 0 b h d e) = rst x0 b h 15 d e := by
  rw [val_main_v236_apply, ← rst_15]
  exact congrArg _ (by blk_ext [])

/-- The stacked states. -/
theorem stacked (b : Fin 4) (h : Fin 8) (n : Fin 16) (d : Fin 128) (e : Fin 256) : val_main_v237 (F := Ideal) x0 (ix5 n b h d e) = rst x0 b h n.val d e := by
  unfold val_main_v237
  fin_cases n
  · rw [show rst x0 b h _ d e = _ from (stack_0 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []
  · rw [show rst x0 b h _ d e = _ from (stack_1 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []
  · rw [show rst x0 b h _ d e = _ from (stack_2 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []
  · rw [show rst x0 b h _ d e = _ from (stack_3 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []
  · rw [show rst x0 b h _ d e = _ from (stack_4 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []
  · rw [show rst x0 b h _ d e = _ from (stack_5 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []
  · rw [show rst x0 b h _ d e = _ from (stack_6 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []
  · rw [show rst x0 b h _ d e = _ from (stack_7 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []
  · rw [show rst x0 b h _ d e = _ from (stack_8 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []
  · rw [show rst x0 b h _ d e = _ from (stack_9 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []
  · rw [show rst x0 b h _ d e = _ from (stack_10 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []
  · rw [show rst x0 b h _ d e = _ from (stack_11 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []
  · rw [show rst x0 b h _ d e = _ from (stack_12 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []
  · rw [show rst x0 b h _ d e = _ from (stack_13 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []
  · rw [show rst x0 b h _ d e = _ from (stack_14 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []
  · rw [show rst x0 b h _ d e = _ from (stack_15 x0 b h d e).symm]
    generalize val_main_v221 (F := Ideal) = Y0
    generalize val_main_v222 (F := Ideal) x0 = Y1
    generalize val_main_v223 (F := Ideal) x0 = Y2
    generalize val_main_v224 (F := Ideal) x0 = Y3
    generalize val_main_v225 (F := Ideal) x0 = Y4
    generalize val_main_v226 (F := Ideal) x0 = Y5
    generalize val_main_v227 (F := Ideal) x0 = Y6
    generalize val_main_v228 (F := Ideal) x0 = Y7
    generalize val_main_v229 (F := Ideal) x0 = Y8
    generalize val_main_v230 (F := Ideal) x0 = Y9
    generalize val_main_v231 (F := Ideal) x0 = Y10
    generalize val_main_v232 (F := Ideal) x0 = Y11
    generalize val_main_v233 (F := Ideal) x0 = Y12
    generalize val_main_v234 (F := Ideal) x0 = Y13
    generalize val_main_v235 (F := Ideal) x0 = Y14
    generalize val_main_v236 (F := Ideal) x0 = Y15
    pointwise []

/-- Row `l` of chunk `n` of a head, before the norm: the retention over the reference's arrays. -/
theorem ref_mix (b : Fin 4) (h : Fin 8) (n : Fin 16) (l : Fin 128) (e : Fin 256) :
    val_main_v244 (F := Ideal) x0 (ix4 b h (row n.val l) e) =
      mix (val_main_v124 (F := Ideal) (ix1 h)) (fun s d => val_main_v43 (F := Ideal) x0 (ix4 b h s d))
        (fun s d => val_main_v78 (F := Ideal) x0 (ix4 b h s d)) (fun s e => val_main_v80 (F := Ideal) x0 (ix4 b h s e))
        (fun l j => val_main_v105 (F := Ideal) (ix3 h l j)) (fun l => val_main_v113 (F := Ideal) (ix2 h l))
        (fun l => val_main_v121 (F := Ideal) (ix2 h l)) n.val l e := by
  rw [ref_chunk, val_main_v243_apply, ref_inner, ref_cross]
  simp only [ref_scores, stacked]
  rfl

end Cert.Ret
end
-- ==== Proof.RetStored.lean ====
/-
  What a grid point of the retention call stores for each chunk: the reference's result there.
-/
module

public import proofs.«01_k».proof.Proof.RetTables
public import proofs.«01_k».proof.Proof.RetRef

@[expose] public section

set_option maxRecDepth 16384

noncomputable section

namespace Cert.Ret

open Idealize.ShloMosaic Idealize.ShloMosaic.TcCoe Idealize.SL.Sem
open Cert.KernelIdeal Cert.KernelIdeal.Gen
open Cert.ReferenceIdeal.Read

/-- A head's row `X` turned by the angles whose cosines are `C` and sines `S`: lane `d` pairs with lane `d + 64`. -/
def turned (X : Fin 128 → EReal) (C S : Fin 64 → EReal) (d : Fin 128) : EReal :=
  if h : d.val < 64 then X d * C ⟨d.val, h⟩ - X ⟨64 + d.val, by omega⟩ * S ⟨d.val, h⟩
  else X ⟨64 + (d.val - 64), by omega⟩ * C ⟨d.val - 64, by omega⟩ + X ⟨d.val - 64, by omega⟩ * S ⟨d.val - 64, by omega⟩

/-- The reference's queries: a head's columns, turned. -/
theorem ref_queries (x0 : FVec Ideal Cert.ReferenceIdeal.S4x2048x13312 .bf16) (b : Fin 4) (h : Fin 8) (s : Fin 2048) (d : Fin 128) :
    val_main_v43 (F := Ideal) x0 (ix4 b h s d) = turned (fun d => x0 (ix3 b s (⟨3072 + (h.val * 128 + d.val), by omega⟩ : Fin 13312)))
      (fun k => val_main_v25 (F := Ideal) (ix2 s k)) (fun k => val_main_v26 (F := Ideal) (ix2 s k)) d := by
  pointwise [val_main_v1, val_main_v5, val_main_v9, val_main_v10, val_main_v11, val_main_v12, val_main_v27, val_main_v28, val_main_v29, val_main_v30, val_main_v31, val_main_v32, val_main_v33, val_main_v34, val_main_v35, val_main_v36, val_main_v37, val_main_v38, val_main_v39, val_main_v40, val_main_v41, val_main_v42, val_main_v43]
  rfl

/-- The reference's keys: a head's columns, turned and scaled. -/
theorem ref_keys (x0 : FVec Ideal Cert.ReferenceIdeal.S4x2048x13312 .bf16) (b : Fin 4) (h : Fin 8) (s : Fin 2048) (d : Fin 128) :
    val_main_v78 (F := Ideal) x0 (ix4 b h s d) = turned (fun d => x0 (ix3 b s (⟨4096 + (h.val * 128 + d.val), by omega⟩ : Fin 13312)))
      (fun k => val_main_v25 (F := Ideal) (ix2 s k)) (fun k => val_main_v26 (F := Ideal) (ix2 s k)) d * Ideal.ofBits FTy.f32 1035273459#32 := by
  rw [← cos_eq, ← sin_eq]
  pointwise [val_main_v1, val_main_v6, val_main_v44, val_main_v45, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_cst_3]
  rfl

/-- The kernel's way to turn a row: the cosines twice, the sines first negated, the row rotated by half its lanes. -/
theorem turned_eq (X : Fin 128 → EReal) (C S : Fin 64 → EReal) (c s : EReal) (d : Fin 128)
    (hc : c = if h : d.val < 64 then C ⟨d.val, h⟩ else C ⟨d.val - 64, by omega⟩)
    (hs : s = if h : d.val < 64 then -S ⟨d.val, h⟩ else S ⟨d.val - 64, by omega⟩) :
    X d * c + X ⟨(d.val + 128 - 64) % 128, by omega⟩ * s = turned X C S d := by
  unfold turned
  subst hc hs
  by_cases h : d.val < 64
  · rw [dif_pos h, dif_pos h, dif_pos h, mul_neg, ← sub_eq_add_neg]
    rw [show (⟨(d.val + 128 - 64) % 128, by omega⟩ : Fin 128) = ⟨64 + d.val, by omega⟩ from Fin.ext (by show (d.val + 128 - 64) % 128 = 64 + d.val; omega)]
  · rw [dif_neg h, dif_neg h, dif_neg h]
    rw [show (⟨(d.val + 128 - 64) % 128, by omega⟩ : Fin 128) = ⟨d.val - 64, by omega⟩ from Fin.ext (by show (d.val + 128 - 64) % 128 = d.val - 64; omega),
      show (⟨64 + (d.val - 64), by omega⟩ : Fin 128) = d from Fin.ext (by show 64 + (d.val - 64) = d.val; omega)]

variable (m : (ℓ : Loc nD τ sig) → Buf (Elt Ideal) ℓ)

/-- The table of cosines. -/
theorem cos_at (c : Dev nD) (t : Fin cfg0.N) (s : Fin 2048) (d : Fin 128) : iblk m c 5 t (ix2 s d : S2048x128.Idx) =
    if h : d.val < 64 then val_main_v25 (F := Ideal) (ix2 s ⟨d.val, h⟩) else val_main_v25 (F := Ideal) (ix2 s ⟨d.val - 64, by omega⟩) := by
  have h : iblk m c 5 t (ix2 s d : S2048x128.Idx) = V m c main_v17 (ix2 s d) := by blk_ext [iblk, idx t]
  rw [h, V_17]
  generalize val_main_v25 (F := Ideal) = Y
  pointwise []

/-- The table of sines, its first half negated. -/
theorem sin_at (c : Dev nD) (t : Fin cfg0.N) (s : Fin 2048) (d : Fin 128) : iblk m c 6 t (ix2 s d : S2048x128.Idx) =
    if h : d.val < 64 then -val_main_v26 (F := Ideal) (ix2 s ⟨d.val, h⟩) else val_main_v26 (F := Ideal) (ix2 s ⟨d.val - 64, by omega⟩) := by
  have h : iblk m c 6 t (ix2 s d : S2048x128.Idx) = V m c main_v19 (ix2 s d) := by blk_ext [iblk, idx t]
  rw [h, V_19]
  generalize val_main_v26 (F := Ideal) = Y
  pointwise []

/-- The projections, the call's first argument. -/
abbrev proj (c : Dev nD) : FVec Ideal S4x2048x13312 .bf16 := m ((c : Thread nD τ).loc main_arg0)

/-- A grid point's queries are the reference's. -/
theorem queries_eq (c : Dev nD) (t : Fin cfg0.N) (s : Fin 2048) (d : Fin 128) :
    queries m c t (ix2 s d) = val_main_v43 (F := Ideal) (proj m c) (ix4 (br t) (hd t) s d) := by
  have hq : ∀ d : Fin 128, iblk m c 1 t (ix3 0 s d : S1x2048x128.Idx) = proj m c (ix3 (br t) s (⟨3072 + ((hd t).val * 128 + d.val), by omega⟩ : Fin 13312)) := by
    intro d; unfold hd; blk_ext [iblk, V, idx t, br]
  rw [ref_queries, show (fun d : Fin 128 => proj m c (ix3 (br t) s (⟨3072 + ((hd t).val * 128 + d.val), by omega⟩ : Fin 13312))) = _ from
    funext fun d => (hq d).symm, ← turned_eq _ _ _ _ _ d (cos_at m c t s d) (sin_at m c t s d)]
  unfold queries
  generalize iblk m c 6 t = S
  generalize iblk m c 5 t = C
  generalize iblk m c 1 t = Q
  pointwise [k0_pay11, k0_pay6, k0_pay9, k0_pay10, k0_pay7, k0_pay5]

/-- A grid point's keys are the reference's. -/
theorem keys_eq (c : Dev nD) (t : Fin cfg0.N) (s : Fin 2048) (d : Fin 128) :
    keys m c t (ix2 s d) = val_main_v78 (F := Ideal) (proj m c) (ix4 (br t) (hd t) s d) := by
  have hq : ∀ d : Fin 128, iblk m c 2 t (ix3 0 s d : S1x2048x128.Idx) = proj m c (ix3 (br t) s (⟨4096 + ((hd t).val * 128 + d.val), by omega⟩ : Fin 13312)) := by
    intro d; unfold hd; blk_ext [iblk, V, idx t, br]
  rw [ref_keys, show (fun d : Fin 128 => proj m c (ix3 (br t) s (⟨4096 + ((hd t).val * 128 + d.val), by omega⟩ : Fin 13312))) = _ from
    funext fun d => (hq d).symm, ← turned_eq _ _ _ _ _ d (cos_at m c t s d) (sin_at m c t s d)]
  unfold keys
  generalize iblk m c 6 t = S
  generalize iblk m c 5 t = C
  generalize iblk m c 2 t = Q
  pointwise [k0_pay12, k0_pay5, k0_pay6, k0_pay8]

/-- A grid point's values are the reference's. -/
theorem values_eq (c : Dev nD) (t : Fin cfg0.N) (s : Fin 2048) (e : Fin 256) :
    iblk m c 3 t (ix3 0 s e : S1x2048x256.Idx) = val_main_v80 (F := Ideal) (proj m c) (ix4 (br t) (hd t) s e) := by
  rw [ref_values]
  unfold hd; blk_ext [iblk, V, idx t, br]

/-- A grid point's gate. -/
theorem gate_eq (c : Dev nD) (t : Fin cfg0.N) (s : Fin 2048) (e : Fin 256) :
    iblk m c 4 t (ix3 0 s e : S1x2048x256.Idx) = proj m c (ix3 (br t) s (⟨7168 + (256 * (hd t).val + e.val), by omega⟩ : Fin 13312)) := by
  unfold hd; blk_ext [iblk, V, idx t, br]

/-- A grid point's gain. -/
theorem gain_eq (c : Dev nD) (t : Fin cfg0.N) (e : Fin 256) :
    iblk m c 10 t (ix2 0 e : S1x256.Idx) = m ((c : Thread nD τ).loc main_arg1) (ix2 0 (⟨256 * (hd t).val + e.val, by omega⟩ : Fin 2048)) := by
  unfold hd; blk_ext [iblk, V, idx t]

/-- What a grid point stores for a chunk is the reference's result there, for gates above minus infinity. -/
theorem stored_eq (c : Dev nD) (t : Fin cfg0.N) (n : Fin 16) (l : Fin 128) (e : Fin 256)
    (hg : ∀ (b : Fin 4) (s : Fin 2048) (j : Fin 2048), proj m c (ix3 b s (⟨7168 + j.val, by omega⟩ : Fin 13312)) ≠ (⊥ : EReal)) :
    stored m c t n.val (ix3 0 l e) = val_main_v271 (F := Ideal) (proj m c) (m ((c : Thread nD τ).loc main_arg1))
      (ix3 (br t) (row n.val l) (⟨256 * (hd t).val + e.val, by omega⟩ : Fin 2048)) := by
  rw [ref_out, ← gain_eq m c t e, ← gate_eq m c t (row n.val l) e]
  unfold stored
  rw [tile_apply _ _ _ _ _ _ _ _ _ _ _ _ (by rw [gate_eq]; exact hg (br t) (row n.val l) (⟨256 * (hd t).val + e.val, by omega⟩ : Fin 2048))]
  refine congrArg (fun y => gated y _ _ e) (funext fun e => ?_)
  rw [ref_mix, mixed_apply _ _ _ _ _ _ _ _ _ (qdec_eq m c t) (kdec_eq m c t), decay_eq]
  rw [show (fun s d => queries m c t (ix2 s d)) = _ from funext fun s => funext fun d => queries_eq m c t s d,
    show (fun s d => keys m c t (ix2 s d)) = _ from funext fun s => funext fun d => keys_eq m c t s d,
    show (fun s e => iblk m c 3 t (ix3 0 s e : S1x2048x256.Idx)) = _ from funext fun s => funext fun e => values_eq m c t s e,
    show (fun l j => iblk m c 7 t (ix3 0 l j : S1x128x128.Idx)) = _ from funext fun l => funext fun j => mask_eq m c t l j]

end Cert.Ret
end
-- ==== Proof.RetValue.lean ====
/-
  What the retention call leaves in its four result arrays: the reference's result, and the three projections' weights in
  half the width.
-/
module

public import proofs.«01_k».proof.Proof.RetStored

@[expose] public section

set_option maxRecDepth 16384

noncomputable section

namespace Cert.Ret

open Idealize.ShloMosaic Idealize.ShloMosaic.TcCoe Idealize.SL.Sem
open Cert.KernelIdeal Cert.KernelIdeal.Gen
open Cert.ReferenceIdeal.Read

variable (m : (ℓ : Loc nD τ sig) → Buf (Elt Ideal) ℓ)

/-- THE RESULT ARRAY after the run is the reference's result. -/
theorem final14 (c : Dev nD)
    (hg : ∀ (b : Fin 4) (s : Fin 2048) (j : Fin 2048), proj m c (ix3 b s (⟨7168 + j.val, by omega⟩ : Fin 13312)) ≠ (⊥ : EReal)) :
    (dats m 0 c).arrAt 14 (cfgs 0).N = val_main_v271 (F := Ideal) (proj m c) (m ((c : Thread nD τ).loc main_arg1)) := by
  refine final_of m c _ fun t y x n hn h0 h1 h2 => ?_
  idx_vars x
  have hr : (row n x1).val = 128 * n + x1.val := row_val ⟨n, hn⟩ x1
  have hx : x0 = 0 := Subsingleton.elim _ _
  rw [hx] at h0 ⊢
  refine Eq.trans (stored_eq m c t ⟨n, hn⟩ x1 x2 hg) (congrArg _ ?_)
  unfold hd
  blk_ext [idx t, br, hr, h0, h1, h2]

/-- The attention's output weights as the call finds them. -/
theorem weights_15 (c : Dev nD) : V m c main_v0 = val_main_v272 (F := Ideal) (m ((c : Thread nD τ).loc main_arg2)) := by
  entry_read
  rfl

/-- The reference's cast of them changes nothing. -/
theorem half_15 (x : FVec Ideal S1x1024x2048 .f32) : val_main_v273 (F := Ideal) x = val_main_v272 (F := Ideal) x := by
  funext i
  rw [val_main_v273_apply]
  generalize val_main_v272 (F := Ideal) x = Y
  rfl

/-- A block of them, in half the width. -/
theorem k0_pay2_at (X : Vec Ideal S32x2048 .f32) : k0_pay2 X = X := by
  funext x
  idx_vars x
  pointwise [k0_pay2]

set_option maxHeartbeats 2000000 in
/-- The attention's output weights, in half the width. -/
theorem final15 (c : Dev nD) : (dats m 0 c).arrAt 15 (cfgs 0).N = val_main_v273 (F := Ideal) (m ((c : Thread nD τ).loc main_arg2)) := by
  refine (dats m 0 c).arrAt_eq_of_covers 15 _ (by decide +kernel) fun t _ y => ?_
  blk_simp
  rw [after0_15]
  frame_out
  rw [k0_pay2_at, half_15, ← weights_15]
  blk_ext [iblk, idx t]

/-- The retention's output weights as the call finds them. -/
theorem weights_16 (c : Dev nD) : V m c main_v1 = val_main_v274 (F := Ideal) (m ((c : Thread nD τ).loc main_arg3)) := by
  entry_read
  rfl

/-- The reference's cast of them changes nothing. -/
theorem half_16 (x : FVec Ideal S1x2048x2048 .f32) : val_main_v275 (F := Ideal) x = val_main_v274 (F := Ideal) x := by
  funext i
  rw [val_main_v275_apply]
  generalize val_main_v274 (F := Ideal) x = Y
  rfl

/-- A block of them, in half the width. -/
theorem k0_pay3_at (X : Vec Ideal S64x2048 .f32) : k0_pay3 X = X := by
  funext x
  idx_vars x
  pointwise [k0_pay3]

set_option maxHeartbeats 2000000 in
/-- The retention's output weights, in half the width. -/
theorem final16 (c : Dev nD) : (dats m 0 c).arrAt 16 (cfgs 0).N = val_main_v275 (F := Ideal) (m ((c : Thread nD τ).loc main_arg3)) := by
  refine (dats m 0 c).arrAt_eq_of_covers 16 _ (by decide +kernel) fun t _ y => ?_
  blk_simp
  rw [after0_16]
  frame_out
  rw [k0_pay3_at, half_16, ← weights_16]
  blk_ext [iblk, idx t]

/-- The output projection's weights as the call finds them. -/
theorem weights_17 (c : Dev nD) : V m c main_v2 = val_main_v276 (F := Ideal) (m ((c : Thread nD τ).loc main_arg4)) := by
  entry_read
  rfl

/-- The reference's cast of them changes nothing. -/
theorem half_17 (x : FVec Ideal S1x2048x2048 .f32) : val_main_v277 (F := Ideal) x = val_main_v276 (F := Ideal) x := by
  funext i
  rw [val_main_v277_apply]
  generalize val_main_v276 (F := Ideal) x = Y
  rfl

/-- A block of them, in half the width. -/
theorem k0_pay4_at (X : Vec Ideal S64x2048 .f32) : k0_pay4 X = X := by
  funext x
  idx_vars x
  pointwise [k0_pay4]

set_option maxHeartbeats 2000000 in
/-- The output projection's weights, in half the width. -/
theorem final17 (c : Dev nD) : (dats m 0 c).arrAt 17 (cfgs 0).N = val_main_v277 (F := Ideal) (m ((c : Thread nD τ).loc main_arg4)) := by
  refine (dats m 0 c).arrAt_eq_of_covers 17 _ (by decide +kernel) fun t _ y => ?_
  blk_simp
  rw [after0_17]
  frame_out
  rw [k0_pay4_at, half_17, ← weights_17]
  blk_ext [iblk, idx t]

end Cert.Ret
end
-- ==== Proof.RetClaim.lean ====
/-
  The retention call and its reference run from the same arguments and end with the same four results.
-/
module

public import proofs.«01_k».proof.Defs
public import proofs.«01_k».proof.Proof.RetValue
public import proofs.«01_k».proof.Proof.Gen.ReferenceIdeal.Run

@[expose] public section

set_option maxRecDepth 16384

noncomputable section

namespace Cert.Ret

open Idealize.ShloMosaic Idealize.ShloMosaic.TcCoe Idealize.SL.Sem
open Cert.ReferenceIdeal.Read

/-- What the precondition's own function states of its shapes. -/
theorem pre_facts : Cert.Pre_gate_above.Facts := ⟨by decide, by decide⟩

attribute [local instance] pre_facts

/-- No logit of the output gate is minus infinity, from the precondition. -/
theorem gate_ne_bot (m : (ℓ : Loc Cert.KernelIdeal.nD Cert.KernelIdeal.τ Cert.KernelIdeal.sig) → Buf (Elt Ideal) ℓ)
    (h : Cert.Pre_KernelIdeal_gate_above m) (c : Dev Cert.KernelIdeal.nD) (b : Fin 4) (s : Fin 2048) (j : Fin 2048) :
    proj m c (ix3 b s (⟨7168 + j.val, by omega⟩ : Fin 13312)) ≠ (⊥ : EReal) := by
  have hb := congrFun (h c) (ix3 b s j)
  revert hb
  unfold Cert.Pre_gate_above.fn proj
  generalize (m ((c : Thread Cert.KernelIdeal.nD Cert.KernelIdeal.τ).loc Cert.KernelIdeal.main_arg0)) = X
  pointwise []
  intro hb h0
  rw [h0] at hb
  have hlt : ¬ (Ideal.ofBits FTy.bf16 65408#16 < (⊥ : EReal)) := not_lt_bot
  rw [decide_eq_false hlt] at hb
  exact absurd hb (by decide)

/-- THE CLAIM: where no logit of the gate is minus infinity, both run and end with the same results, their arguments unchanged. -/
theorem holds : Cert.algebraic_KernelIdeal_ReferenceIdeal_pre_gate_above
    (hKernelIdeal := Cert.KernelIdeal.Gen.facts) (hReferenceIdeal := Cert.ReferenceIdeal.Gen.facts) (hPre_gate_above := pre_facts) := by
  intro m g m' g' hpre hagree
  refine ⟨fun c => val_main_v271 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => val_main_v273 (F := Ideal) (m ((c.tc : Thread Cert.KernelIdeal.nD Cert.KernelIdeal.τ).loc Cert.KernelIdeal.main_arg2)),
    fun c => val_main_v275 (F := Ideal) (m ((c.tc : Thread Cert.KernelIdeal.nD Cert.KernelIdeal.τ).loc Cert.KernelIdeal.main_arg3)),
    fun c => val_main_v277 (F := Ideal) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Value.run_blocks m g)
    obtain ⟨h0, h1, h2, h3, k0, k1, k2, k3, k4⟩ := h c
    exact ⟨h0.trans (final14 m c (gate_ne_bot m hpre c)), h1.trans (final15 m c), h2.trans (final16 m c), h3.trans (final17 m c),
      k0, k1, k2, k3, k4⟩
  · refine (θ_run Cert.ReferenceIdeal.defs _ _).mono (fun r h c => ?_) (Cert.ReferenceIdeal.Value.run m' g')
    obtain ⟨h0, h1, h2, h3, k0, k1, k2, k3, k4⟩ := h c
    obtain ⟨e0, e1, e2, e3, e4⟩ := hagree c
    refine ⟨?_, ?_, ?_, ?_, k0, k1, k2, k3, k4⟩
    · beta_reduce; rw [← e0, ← e1]; exact h0.trans (val_main_v271_eq _)
    · beta_reduce; rw [← e2]; exact h1.trans (val_main_v273_eq _)
    · beta_reduce; rw [← e3]; exact h2.trans (val_main_v275_eq _)
    · beta_reduce; rw [← e4]; exact h3.trans (val_main_v277_eq _)

end Cert.Ret

end
-- ==== Proof.MixerValue.lean ====
/-
  What the mixer leaves in its result array. The kernel walks the 8192 token rows in 16 blocks of 512: it projects the
  block's attention and retention outputs, gates both (the two halves of the columns one after the other), multiplies
  the gated sum by the output projection and adds the scaled product to the residual stream. Read at an element, this
  is the reference's expression.
-/
module

public import proofs.«01_k».proof.Proof.Gen.Kernel3Ideal.Value
public import proofs.«01_k».proof.Proof.Gen.Reference3Ideal.Read
public import proofs.«01_k».proof.Proof.Scalars
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Mixer

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- Where each window's block lies at grid point `t`: token rows `512 t …`, the modulation of batch row `t / 4`, the
    gate columns in two halves of 1024. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val / 4, 0, 0]
    ∧ win0_7.index t = ![t.val, 9] ∧ win0_8.index t = ![t.val, 10] ∧ win0_9.index t = ![t.val, 11] ∧ win0_10.index t = ![t.val, 12]
    ∧ win0_11.index t = ![t.val, 0] :=
  (by decide +kernel : ∀ t : Fin grid0.N, _)

/-- The reference's result over the kernel's own arguments. -/
def ref (m : (ℓ : Loc nD τ sig) → Buf (Elt Ideal) ℓ) (c : Dev nD) : FVec Ideal S8192x2048 .f32 :=
  Cert.Reference3Ideal.Read.val_main_v43 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The row of the array on which row `y` of the block at point `t` lies. -/
theorem emb_eq (t : Fin cfg0.N) (y0 : Fin 512) (y1 : Fin 2048) (h : 512 * t.val + y0.val < 8192) :
    ((View.whole main_v11).slice (win0_11.rect t)).emb (ix2 y0 y1) = (ix2 ⟨512 * t.val + y0.val, h⟩ y1 : S8192x2048.Idx) := by
  blk_ext [idx t]

open Cert.Reference3Ideal.Read in
set_option maxHeartbeats 1600000 in
/-- THE RESULT ARRAY after the run is the reference's result. -/
theorem final (c : Dev nD) : (dats m 0 c).arrAt 11 (cfgs 0).N = ref m c := by
  refine (dats m 0 c).arrAt_eq_of_covers 11 _ (by decide +kernel) fun t _ y => ?_
  blk_simp
  rw [after0_11]
  frame_out
  idx_vars y
  have ht : t.val < 16 := lt_of_lt_of_eq t.isLt N_0
  have hr : 512 * t.val + y0.val < 8192 := by omega
  rw [emb_eq t y0 y1 hr]
  unfold ref
  pointwise [k0_pay1, k0_pay2, k0_pay3, k0_pay4, val_main_v0, val_main_v1, val_main_v2, val_main_v3, val_main_v4, val_main_v5, val_main_v6,
    val_main_v7, val_main_v8, val_main_v9, val_main_v10, val_main_v11, val_main_v12, val_main_v13,
    val_main_v14, val_main_v15, val_main_v16, val_main_v17, val_main_v18, val_main_v19, val_main_v20,
    val_main_v21, val_main_v22, val_main_v23, val_main_cst, val_main_v24, val_main_v25, val_main_cst_0,
    val_main_v26, val_main_v27, val_main_v28, val_main_v29, val_main_v30, val_main_cst_1, val_main_v31,
    val_main_v32, val_main_cst_2, val_main_v33, val_main_v34, val_main_v35, val_main_v36, val_main_v37,
    val_main_v38, val_main_v39, val_main_v40, val_main_v41, val_main_v42, val_main_v43]
  simp only [Scalars.sigmoid]
  rw [Fin.sum_univ_two_halves 1024 1024 rfl]
  blk_point [iblk, V, idx t]

end Cert.Mixer

end
-- ==== Proof.MixerClaim.lean ====
/-
  The mixer call and its reference run from the same arguments and end with the same result.
-/
module

public import proofs.«01_k».proof.Defs
public import proofs.«01_k».proof.Proof.MixerValue
public import proofs.«01_k».proof.Proof.Gen.Reference3Ideal.Run

@[expose] public section

set_option maxRecDepth 16384

noncomputable section

namespace Cert.Mixer

open Idealize.ShloMosaic Idealize.ShloMosaic.TcCoe Idealize.SL.Sem

/-- THE CLAIM: both run and end with the same result, their arguments unchanged. -/
theorem holds : Cert.algebraic_Kernel3Ideal_Reference3Ideal
    (hKernel3Ideal := Cert.Kernel3Ideal.Gen.facts) (hReference3Ideal := Cert.Reference3Ideal.Gen.facts) := by
  intro m g m' g' _ hagree
  refine ⟨fun c => ref m c, ?_, ?_⟩
  · refine (θ_run Cert.Kernel3Ideal.defs _ _).mono (fun r h c => ?_) (Cert.Kernel3Ideal.Value.run_blocks m g)
    exact ⟨(h c).1.trans (final m c), (h c).2⟩
  · refine (θ_run Cert.Reference3Ideal.defs _ _).mono (fun r h c => ?_) (Cert.Reference3Ideal.Value.run m' g')
    obtain ⟨e0, e1, e2, e3, e4, e5, e6, e7⟩ := hagree c
    refine ⟨?_, (h c).2⟩
    beta_reduce
    unfold ref
    rw [← e0, ← e1, ← e2, ← e3, ← e4, ← e5, ← e6, ← e7]
    exact (h c).1.trans (Cert.Reference3Ideal.Read.val_main_v43_eq _ _ _ _ _ _ _ _)

end Cert.Mixer

end
-- ==== Proof.FfnRunA.lean ====
module

public import proofs.«01_k».proof.Proof.Gen.Kernel2Ideal.Frame
public import proofs.«01_k».proof.Proof.Gen.Kernel2Ideal.Loops
public import Idealize.ShloMosaic.Lib.VecWindow
/-!
The body at the first of the eleven points of a row tile.
-/

@[expose] public section

set_option maxRecDepth 65536

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Scratch contents all of which the pieces cover, as the contents their value alone gives. -/
theorem writes_eq_unread {s : Shape} {e : EltTy} {M : Memref sig .tc .vmem s e} (hM : M.IsWhole) (f : M.view.ty.Contents (Elt F))
    (L : List (View.Piece (Elt F) s e)) (h : ∀ y, ∃ p ∈ L, y ∈ p.1.set)
    (v' : View sig .tc .vmem s e) (f' : v'.ty.Contents (Elt F)) :
    M.view.writes (Elt F) f L = hM.unread (v'.read (Elt F) (v'.writes (Elt F) f' L)) :=
  hM.eq_unread (View.read_writes_of_cover _ _ _ _ L h)

/-- The view of the buffer the normed rows are kept in. -/
abbrev VS0 : View sig .tc .vmem S1040x2048 .bf16 := (Memref.whole cc0_scratch0 : Memref sig .tc .vmem S1040x2048 .bf16).view

set_option maxHeartbeats 4000000 in
/-- What the first point of a row tile leaves in the kept normed rows and, as stores (last first), in the output's block, with the run that leaves it:
    the normed rows are read back from the stores that cover them, so nothing that was there before counts. -/
noncomputable def kernelRun0_A (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x6x2048 .f32) (harg4 : arg4.IsWhole) (arg5 : Memref sig .tc .vmem S1x2048 .f32) (harg5 : arg5.IsWhole) (arg6 : Memref sig .tc .vmem S1x2048x1024 .bf16) (harg6 : arg6.IsWhole) (arg7 : Memref sig .tc .vmem S2x4x512 .f32) (harg7 : arg7.IsWhole) (arg8 : Memref sig .tc .vmem S512x2048 .bf16) (harg8 : arg8.IsWhole) (arg9 : Memref sig .tc .vmem S1024x2048 .f32) (harg9 : arg9.IsWhole) (arg10 : Memref sig .tc .vmem S1040x2048 .bf16) (harg10 : arg10.IsWhole) (arg11 : Memref sig .tc .vmem S2x1040x512 .f32) (harg11 : arg11.IsWhole) (hc0 : k0_cond1 i = 1#1) (hc1 : k0_cond2 i = 1#1) (hc2 : ¬ k0_cond3 i = 1#1) (hc3 : ¬ k0_cond4 i = 1#1)
    (x0 : Vec F S1024x2048 .f32) (x1 : Vec F S16x2048 .f32) (x2 : Vec F S1x6x2048 .f32) (x3 : Vec F S1x2048 .f32) (x4 : Vec F S1x2048x1024 .bf16) (x5 : Vec F S2x4x512 .f32) (x6 : Vec F S512x2048 .bf16) :
    Σ' (H : Vec F S1040x2048 .bf16), { L : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L) ∗ owns (c : Thread nD τ) arg10 fullShare H ∗ (∃ d, owns (c : Thread nD τ) arg11 fullShare d)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_ffn_eq_skeleton]; unfold cc0_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    generalize hp : @k0_part2 F _ = p2
    sl_exec (disch := first | sl_exact hc0 | sl_exact hc1 | sl_exact hc2 | sl_exact hc3)
    subst hp
    rw [writes_eq_unread harg10 fs0 _ (View.cover_of_tiledL _ S16x2048.size (by sl_kernel_rfl)) VS0 VS0.junk]
    simp only [k0_part2_eq_skeleton, k0_part3_eq_skeleton]
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; swap; · iexact HS0
      ipureintro
      rw [harg10.read_unread]
    iexists _, _; isplitr; swap; · iexact HS1
    ipureintro; rfl

end Cert.Kernel2Ideal.Gen

end
-- ==== Proof.FfnRunB.lean ====
module

public import proofs.«01_k».proof.Proof.Gen.Kernel2Ideal.Frame
public import proofs.«01_k».proof.Proof.Gen.Kernel2Ideal.Loops
public import Idealize.ShloMosaic.Lib.VecWindow
public import proofs.«01_k».proof.Proof.FfnRunA
/-!
The body at a middle point of a row tile.
-/

@[expose] public section

set_option maxRecDepth 65536

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What a middle point of a row tile stores (last first) into the output's block, with the run that does: it reads the kept normed rows and leaves them,
    and it adds to what the output's block held. -/
noncomputable def kernelRun0_B (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x6x2048 .f32) (harg4 : arg4.IsWhole) (arg5 : Memref sig .tc .vmem S1x2048 .f32) (harg5 : arg5.IsWhole) (arg6 : Memref sig .tc .vmem S1x2048x1024 .bf16) (harg6 : arg6.IsWhole) (arg7 : Memref sig .tc .vmem S2x4x512 .f32) (harg7 : arg7.IsWhole) (arg8 : Memref sig .tc .vmem S512x2048 .bf16) (harg8 : arg8.IsWhole) (arg9 : Memref sig .tc .vmem S1024x2048 .f32) (harg9 : arg9.IsWhole) (arg10 : Memref sig .tc .vmem S1040x2048 .bf16) (harg10 : arg10.IsWhole) (arg11 : Memref sig .tc .vmem S2x1040x512 .f32) (harg11 : arg11.IsWhole) (hc0 : ¬ k0_cond1 i = 1#1) (hc1 : ¬ k0_cond2 i = 1#1) (hc2 : k0_cond3 i = 1#1) (hc3 : ¬ k0_cond4 i = 1#1)
    (x0 : Vec F S1024x2048 .f32) (x1 : Vec F S16x2048 .f32) (x2 : Vec F S1x6x2048 .f32) (x3 : Vec F S1x2048 .f32) (x4 : Vec F S1x2048x1024 .bf16) (x5 : Vec F S2x4x512 .f32) (x6 : Vec F S512x2048 .bf16) (xo : Vec F S1024x2048 .f32) (xs : Vec F S1040x2048 .bf16) :
    { L : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare xs ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L) ∗ owns (c : Thread nD τ) arg10 fullShare xs ∗ (∃ d, owns (c : Thread nD τ) arg11 fullShare d)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11) K } := by
  refine ⟨?_, fun E K => ?run⟩
  case run =>
    simp only [cc0_ffn_eq_skeleton]; unfold cc0_ffn_skel
    simp only [k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    iexists _, _; isplitr; swap; · iexact HS1
    ipureintro; rfl

end Cert.Kernel2Ideal.Gen

end
-- ==== Proof.FfnRunC.lean ====
module

public import proofs.«01_k».proof.Proof.Gen.Kernel2Ideal.Frame
public import proofs.«01_k».proof.Proof.Gen.Kernel2Ideal.Loops
public import Idealize.ShloMosaic.Lib.VecWindow
public import proofs.«01_k».proof.Proof.FfnRunB
/-!
The body at the last point of a row tile.
-/

@[expose] public section

set_option maxRecDepth 65536

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the last point of a row tile stores (last first) into the output's block, with the run that does: it reads the kept normed rows and leaves them,
    and it adds to what the output's block held. -/
noncomputable def kernelRun0_C (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x6x2048 .f32) (harg4 : arg4.IsWhole) (arg5 : Memref sig .tc .vmem S1x2048 .f32) (harg5 : arg5.IsWhole) (arg6 : Memref sig .tc .vmem S1x2048x1024 .bf16) (harg6 : arg6.IsWhole) (arg7 : Memref sig .tc .vmem S2x4x512 .f32) (harg7 : arg7.IsWhole) (arg8 : Memref sig .tc .vmem S512x2048 .bf16) (harg8 : arg8.IsWhole) (arg9 : Memref sig .tc .vmem S1024x2048 .f32) (harg9 : arg9.IsWhole) (arg10 : Memref sig .tc .vmem S1040x2048 .bf16) (harg10 : arg10.IsWhole) (arg11 : Memref sig .tc .vmem S2x1040x512 .f32) (harg11 : arg11.IsWhole) (hc0 : ¬ k0_cond1 i = 1#1) (hc1 : ¬ k0_cond2 i = 1#1) (hc2 : ¬ k0_cond3 i = 1#1) (hc3 : k0_cond4 i = 1#1)
    (x0 : Vec F S1024x2048 .f32) (x1 : Vec F S16x2048 .f32) (x2 : Vec F S1x6x2048 .f32) (x3 : Vec F S1x2048 .f32) (x4 : Vec F S1x2048x1024 .bf16) (x5 : Vec F S2x4x512 .f32) (x6 : Vec F S512x2048 .bf16) (xo : Vec F S1024x2048 .f32) (xs : Vec F S1040x2048 .bf16) :
    { L : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare xs ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L) ∗ owns (c : Thread nD τ) arg10 fullShare xs ∗ (∃ d, owns (c : Thread nD τ) arg11 fullShare d)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11) K } := by
  refine ⟨?_, fun E K => ?run⟩
  case run =>
    simp only [cc0_ffn_eq_skeleton]; unfold cc0_ffn_skel
    simp only [k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    iexists _, _; isplitr; swap; · iexact HS1
    ipureintro; rfl

end Cert.Kernel2Ideal.Gen

end
-- ==== Proof.FfnFrame.lean ====
module

public import proofs.«01_k».proof.Proof.Gen.Kernel2Ideal.Frame
public import proofs.«01_k».proof.Proof.Gen.Kernel2Ideal.Loops
public import Idealize.ShloMosaic.Lib.VecWindow
public import proofs.«01_k».proof.Proof.FfnRunC
public import Idealize.ShloMosaic.Lib.Claim
/-!
What the feed-forward kernel's launch leaves: the accumulation in the output's block over the eleven points of a row tile, the normed rows
kept from the first of them, the body at every point, and the run.
-/

@[expose] public section

set_option maxRecDepth 65536

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x4x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2048 .f32 := win0_7.stage (cfg0.slots t 7)
abbrev hs0_7 (t : Fin cfg0.N) : (ms0_7 t).IsWhole := hstage0_7 ((cfg0.slots t 7).cast nbuf0_7)
abbrev scM0_0 : Memref sig .tc .vmem S1040x2048 .bf16 := Memref.whole cc0_scratch0
abbrev scM0_1 : Memref sig .tc .vmem S2x1040x512 .f32 := Memref.whole cc0_scratch1
/-- Every point stores into the output's block. -/
theorem idle0_7 (i : grid0.Coords) : cfg0.idle 7 i = false := by
  show (!(k0_cond2 i == 1#1) && !(k0_cond3 i == 1#1) && !(k0_cond4 i == 1#1)) = false
  unfold k0_cond2 k0_cond3 k0_cond4
  generalize (i 1) = j
  revert j
  decide +kernel

/-- The view of the output's block. -/
abbrev VO0_7 : View sig .tc .vmem S1024x2048 .f32 := (Memref.whole cc0_stg7_0 : Memref sig .tc .vmem S1024x2048 .f32).view

/-- The launch's scratch and register, as the two scratch buffers at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The four conditions of the body at a point, in terms of its number. -/
theorem hcond0_0 : ∀ t : Fin cfg0.N, k0_cond1 (grid0.coords t) = 1#1 ↔ t.val % 11 = 0 :=
  (by decide +kernel : ∀ t : Fin grid0.N, k0_cond1 (grid0.coords t) = 1#1 ↔ t.val % 11 = 0)
/-- The second condition: the first point of a row tile. -/
theorem hcond0_1 : ∀ t : Fin cfg0.N, k0_cond2 (grid0.coords t) = 1#1 ↔ t.val % 11 = 0 :=
  (by decide +kernel : ∀ t : Fin grid0.N, k0_cond2 (grid0.coords t) = 1#1 ↔ t.val % 11 = 0)
/-- The third condition: neither the first nor the last point of a row tile. -/
theorem hcond0_2 : ∀ t : Fin cfg0.N, k0_cond3 (grid0.coords t) = 1#1 ↔ (t.val % 11 ≠ 0 ∧ t.val % 11 ≠ 10) :=
  (by decide +kernel : ∀ t : Fin grid0.N, k0_cond3 (grid0.coords t) = 1#1 ↔ (t.val % 11 ≠ 0 ∧ t.val % 11 ≠ 10))
/-- The fourth condition: the last point of a row tile. -/
theorem hcond0_3 : ∀ t : Fin cfg0.N, k0_cond4 (grid0.coords t) = 1#1 ↔ t.val % 11 = 10 :=
  (by decide +kernel : ∀ t : Fin grid0.N, k0_cond4 (grid0.coords t) = 1#1 ↔ t.val % 11 = 10)

/-- The output's block and the kept normed rows after a point, by its place in its row tile: `p` is what the point before left. -/
def out0_A_7 (c : Dev nD) (t : Fin cfg0.N) (h : t.val % 11 = 0) : Vec F S1024x2048 .f32 :=
  VO0_7.read (Elt F) (VO0_7.writes (Elt F) VO0_7.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h) ((hcond0_1 t).mpr h) (fun q => ((hcond0_2 t).mp q).1 h) (fun q => by have := (hcond0_3 t).mp q; omega) (iblk m c 0 t) (iblk m c 1 t) (iblk m c 2 t) (iblk m c 3 t) (iblk m c 4 t) (iblk m c 5 t) (iblk m c 6 t)).2.1)
/-- The normed rows kept by the first point of a row tile. -/
def sout0_A_0 (c : Dev nD) (t : Fin cfg0.N) (h : t.val % 11 = 0) : Vec F S1040x2048 .bf16 :=
  (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h) ((hcond0_1 t).mpr h) (fun q => ((hcond0_2 t).mp q).1 h) (fun q => by have := (hcond0_3 t).mp q; omega) (iblk m c 0 t) (iblk m c 1 t) (iblk m c 2 t) (iblk m c 3 t) (iblk m c 4 t) (iblk m c 5 t) (iblk m c 6 t)).1
/-- The output's block after a middle point. -/
def out0_B_7 (c : Dev nD) (t : Fin cfg0.N) (h : t.val % 11 ≠ 0 ∧ t.val % 11 ≠ 10) (p : Vec F S1024x2048 .f32 × Vec F S1040x2048 .bf16) : Vec F S1024x2048 .f32 :=
  VO0_7.read (Elt F) (VO0_7.writes (Elt F) VO0_7.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun q => h.1 ((hcond0_0 t).mp q)) (fun q => h.1 ((hcond0_1 t).mp q)) ((hcond0_2 t).mpr h) (fun q => h.2 ((hcond0_3 t).mp q)) (iblk m c 0 t) (iblk m c 1 t) (iblk m c 2 t) (iblk m c 3 t) (iblk m c 4 t) (iblk m c 5 t) (iblk m c 6 t) p.1 p.2).1)
/-- The output's block after the last point. -/
def out0_C_7 (c : Dev nD) (t : Fin cfg0.N) (h : t.val % 11 = 10) (p : Vec F S1024x2048 .f32 × Vec F S1040x2048 .bf16) : Vec F S1024x2048 .f32 :=
  VO0_7.read (Elt F) (VO0_7.writes (Elt F) VO0_7.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun q => by have := (hcond0_0 t).mp q; omega) (fun q => by have := (hcond0_1 t).mp q; omega) (fun q => ((hcond0_2 t).mp q).2 h) ((hcond0_3 t).mpr h) (iblk m c 0 t) (iblk m c 1 t) (iblk m c 2 t) (iblk m c 3 t) (iblk m c 4 t) (iblk m c 5 t) (iblk m c 6 t) p.1 p.2).1)

/-- The stores of each case cover the output's block. -/
theorem cover0_A_7 (c : Dev nD) (t : Fin cfg0.N) (h : t.val % 11 = 0) (y : S1024x2048.Idx) : ∃ pc ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h) ((hcond0_1 t).mpr h) (fun q => ((hcond0_2 t).mp q).1 h) (fun q => by have := (hcond0_3 t).mp q; omega) (iblk m c 0 t) (iblk m c 1 t) (iblk m c 2 t) (iblk m c 3 t) (iblk m c 4 t) (iblk m c 5 t) (iblk m c 6 t)).2.1, y ∈ pc.1.set :=
  View.cover_of_tiledL ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h) ((hcond0_1 t).mpr h) (fun q => ((hcond0_2 t).mp q).1 h) (fun q => by have := (hcond0_3 t).mp q; omega) (iblk m c 0 t) (iblk m c 1 t) (iblk m c 2 t) (iblk m c 3 t) (iblk m c 4 t) (iblk m c 5 t) (iblk m c 6 t)).2.1) S1024x2048.size (by sl_kernel_rfl) y
/-- A middle point's stores cover the output's block. -/
theorem cover0_B_7 (c : Dev nD) (t : Fin cfg0.N) (h : t.val % 11 ≠ 0 ∧ t.val % 11 ≠ 10) (p : Vec F S1024x2048 .f32 × Vec F S1040x2048 .bf16) (y : S1024x2048.Idx) :
    ∃ pc ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun q => h.1 ((hcond0_0 t).mp q)) (fun q => h.1 ((hcond0_1 t).mp q)) ((hcond0_2 t).mpr h) (fun q => h.2 ((hcond0_3 t).mp q)) (iblk m c 0 t) (iblk m c 1 t) (iblk m c 2 t) (iblk m c 3 t) (iblk m c 4 t) (iblk m c 5 t) (iblk m c 6 t) p.1 p.2).1, y ∈ pc.1.set :=
  View.cover_of_tiledL ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun q => h.1 ((hcond0_0 t).mp q)) (fun q => h.1 ((hcond0_1 t).mp q)) ((hcond0_2 t).mpr h) (fun q => h.2 ((hcond0_3 t).mp q)) (iblk m c 0 t) (iblk m c 1 t) (iblk m c 2 t) (iblk m c 3 t) (iblk m c 4 t) (iblk m c 5 t) (iblk m c 6 t) p.1 p.2).1) S1024x2048.size (by sl_kernel_rfl) y
/-- The last point's stores cover the output's block. -/
theorem cover0_C_7 (c : Dev nD) (t : Fin cfg0.N) (h : t.val % 11 = 10) (p : Vec F S1024x2048 .f32 × Vec F S1040x2048 .bf16) (y : S1024x2048.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun q => by have := (hcond0_0 t).mp q; omega) (fun q => by have := (hcond0_1 t).mp q; omega) (fun q => ((hcond0_2 t).mp q).2 h) ((hcond0_3 t).mpr h) (iblk m c 0 t) (iblk m c 1 t) (iblk m c 2 t) (iblk m c 3 t) (iblk m c 4 t) (iblk m c 5 t) (iblk m c 6 t) p.1 p.2).1, y ∈ pc.1.set :=
  View.cover_of_tiledL ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun q => by have := (hcond0_0 t).mp q; omega) (fun q => by have := (hcond0_1 t).mp q; omega) (fun q => ((hcond0_2 t).mp q).2 h) ((hcond0_3 t).mpr h) (iblk m c 0 t) (iblk m c 1 t) (iblk m c 2 t) (iblk m c 3 t) (iblk m c 4 t) (iblk m c 5 t) (iblk m c 6 t) p.1 p.2).1) S1024x2048.size (by sl_kernel_rfl) y

/-- What one point makes of what the point before left: the output's block and the kept rows. -/
def step0 (c : Dev nD) (t : Fin cfg0.N) (p : Vec F S1024x2048 .f32 × Vec F S1040x2048 .bf16) : Vec F S1024x2048 .f32 × Vec F S1040x2048 .bf16 :=
  if h : t.val % 11 = 0 then (out0_A_7 m c t h, sout0_A_0 m c t h)
  else if h' : t.val % 11 = 10 then (out0_C_7 m c t h' p, p.2)
  else (out0_B_7 m c t ⟨h, h'⟩ p, p.2)

/-- The output's block and the kept rows after each point. -/
def outsAt0 (c : Dev nD) : (n : ℕ) → n < cfg0.N → Vec F S1024x2048 .f32 × Vec F S1040x2048 .bf16
  | 0, hn => (out0_A_7 m c ⟨0, hn⟩ rfl, sout0_A_0 m c ⟨0, hn⟩ rfl)
  | n + 1, hn => step0 m c ⟨n + 1, hn⟩ (outsAt0 c n (Nat.lt_of_succ_lt hn))

/-- What the first point of a row tile leaves. -/
theorem outsAt0_A (c : Dev nD) (t : Fin cfg0.N) (h : t.val % 11 = 0) :
    outsAt0 m c t.val t.isLt = (out0_A_7 m c t h, sout0_A_0 m c t h) := by
  obtain ⟨n, hn⟩ := t
  cases n with
  | zero => rfl
  | succ n => exact dif_pos h
/-- What a middle point leaves. -/
theorem outsAt0_B (c : Dev nD) (t : Fin cfg0.N) (h : t.val % 11 ≠ 0 ∧ t.val % 11 ≠ 10) :
    outsAt0 m c t.val t.isLt = (out0_B_7 m c t h (outsAt0 m c (t.val - 1) (Nat.lt_of_le_of_lt (Nat.sub_le _ _) t.isLt)),
      (outsAt0 m c (t.val - 1) (Nat.lt_of_le_of_lt (Nat.sub_le _ _) t.isLt)).2) := by
  obtain ⟨n, hn⟩ := t
  cases n with
  | zero => exact absurd rfl h.1
  | succ n => exact (dif_neg h.1).trans (dif_neg h.2)
/-- What the last point of a row tile leaves. -/
theorem outsAt0_C (c : Dev nD) (t : Fin cfg0.N) (h : t.val % 11 = 10) :
    outsAt0 m c t.val t.isLt = (out0_C_7 m c t h (outsAt0 m c (t.val - 1) (Nat.lt_of_le_of_lt (Nat.sub_le _ _) t.isLt)),
      (outsAt0 m c (t.val - 1) (Nat.lt_of_le_of_lt (Nat.sub_le _ _) t.isLt)).2) := by
  obtain ⟨n, hn⟩ := t
  cases n with
  | zero => exact absurd (show 0 % 11 = 10 from h) (by decide)
  | succ n => exact (dif_neg (by omega)).trans (dif_pos h)

/-- What holds between points: the kept rows at what the point before left, the other scratch at anything. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2 ∗ (∃ d, owns (c : Thread nD τ) scM0_1 fullShare d)) ∗ (∃ r, prngReg c r))

/-- The state before the first point. -/
theorem PhiS_zero (c : Dev nD) (n : ℕ) (h : n ≤ cfg0.N) (hz : n = 0) : PhiS m c n h = Pipeline.ΦA spec0 c := by
  subst hz; rfl
/-- The state before a later point. -/
theorem PhiS_pos (c : Dev nD) (n : ℕ) (h : n ≤ cfg0.N) (hz : n ≠ 0) :
    PhiS m c n h = iprop(iprop(owns (c : Thread nD τ) scM0_0 fullShare (outsAt0 m c (n - 1) (by omega)).2 ∗ (∃ d, owns (c : Thread nD τ) scM0_1 fullShare d)) ∗ (∃ r, prngReg c r)) := by
  cases n with
  | zero => exact absurd rfl hz
  | succ n => rfl
/-- Before any point the scratch holds something. -/
theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨⟨HS0, HS1⟩, Hg⟩
    isplitl [HS0 HS1]
    · isplitl [HS0]
      · iexists _; iexact HS0
      iexact HS1
    iexact Hg

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q w := Pipeline.shareOf spec0 w
  owed _ := 0

/-- The data's arrays are the values at the call. -/
theorem A_eq (c : Dev nD) (w : Fin cfg0.W) : (dats m 0 c).A w = V m c (Pipeline.arrRef spec0 w) := by
  dsimp only [dats]
/-- The state before a point, at the point's own number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
/-- Window 0's stage after a point. -/
theorem after0_0 (c : Dev nD) (t : Fin cfg0.N) : (dats m 0 c).after 0 t = iblk m c 0 t := by dsimp only [dats]
/-- Window 1's stage after a point. -/
theorem after0_1 (c : Dev nD) (t : Fin cfg0.N) : (dats m 0 c).after 1 t = iblk m c 1 t := by dsimp only [dats]
/-- Window 2's stage after a point. -/
theorem after0_2 (c : Dev nD) (t : Fin cfg0.N) : (dats m 0 c).after 2 t = iblk m c 2 t := by dsimp only [dats]
/-- Window 3's stage after a point. -/
theorem after0_3 (c : Dev nD) (t : Fin cfg0.N) : (dats m 0 c).after 3 t = iblk m c 3 t := by dsimp only [dats]
/-- Window 4's stage after a point. -/
theorem after0_4 (c : Dev nD) (t : Fin cfg0.N) : (dats m 0 c).after 4 t = iblk m c 4 t := by dsimp only [dats]
/-- Window 5's stage after a point. -/
theorem after0_5 (c : Dev nD) (t : Fin cfg0.N) : (dats m 0 c).after 5 t = iblk m c 5 t := by dsimp only [dats]
/-- Window 6's stage after a point. -/
theorem after0_6 (c : Dev nD) (t : Fin cfg0.N) : (dats m 0 c).after 6 t = iblk m c 6 t := by dsimp only [dats]
/-- Window 7's stage after a point. -/
theorem after0_7 (c : Dev nD) (t : Fin cfg0.N) : (dats m 0 c).after 7 t = (outsAt0 m c t.val t.isLt).1 := by dsimp only [dats]
/-- Window 0's stage before a point. -/
theorem before0_0 (c : Dev nD) (t : Fin cfg0.N) (d) : (dats m 0 c).before 0 t d = iblk m c 0 t :=
  before0_0_of m (dats m 0 c) (A_eq m c 0) (after0_0 m c) t d
/-- Window 1's stage before a point. -/
theorem before0_1 (c : Dev nD) (t : Fin cfg0.N) (d) : (dats m 0 c).before 1 t d = iblk m c 1 t :=
  before0_1_of m (dats m 0 c) (A_eq m c 1) (after0_1 m c) t d
/-- Window 2's stage before a point. -/
theorem before0_2 (c : Dev nD) (t : Fin cfg0.N) (d) : (dats m 0 c).before 2 t d = iblk m c 2 t :=
  before0_2_of m (dats m 0 c) (A_eq m c 2) (after0_2 m c) t d
/-- Window 3's stage before a point. -/
theorem before0_3 (c : Dev nD) (t : Fin cfg0.N) (d) : (dats m 0 c).before 3 t d = iblk m c 3 t :=
  before0_3_of m (dats m 0 c) (A_eq m c 3) (after0_3 m c) t d
/-- Window 4's stage before a point. -/
theorem before0_4 (c : Dev nD) (t : Fin cfg0.N) (d) : (dats m 0 c).before 4 t d = iblk m c 4 t :=
  before0_4_of m (dats m 0 c) (A_eq m c 4) (after0_4 m c) t d
/-- Window 5's stage before a point. -/
theorem before0_5 (c : Dev nD) (t : Fin cfg0.N) (d) : (dats m 0 c).before 5 t d = iblk m c 5 t :=
  before0_5_of m (dats m 0 c) (A_eq m c 5) (after0_5 m c) t d
/-- Window 6's stage before a point. -/
theorem before0_6 (c : Dev nD) (t : Fin cfg0.N) (d) : (dats m 0 c).before 6 t d = iblk m c 6 t :=
  before0_6_of m (dats m 0 c) (A_eq m c 6) (after0_6 m c) t d
/-- Past the first point of a row tile the output's block holds what the point before left. -/
theorem before0_7 (c : Dev nD) (t : Fin cfg0.N) (h : t.val % 11 ≠ 0) (d) :
    (dats m 0 c).before 7 t d = (outsAt0 m c (t.val - 1) (Nat.lt_of_le_of_lt (Nat.sub_le _ _) t.isLt)).1 := by
  rw [Dat.before_out_kept _ 7 rfl t (by intro hz; rw [hz] at h; exact h rfl)
    (Bool.eq_false_iff.mpr fun q => by have := (flush0_7 _).mp q; dsimp only at this; omega) idle0_7 (fun _ _ => rfl)]
  dsimp only [dats]

/-- What the body must leave of the output's block. -/
theorem leaves0_7 (c : Dev nD) (t : Fin cfg0.N) :
    (dats m 0 c).leavesExact 7 t = owns (c : Thread nD τ) (ms0_7 t) fullShare ((dats m 0 c).after 7 t) := by
  unfold Dat.leavesExact; rw [idle0_7]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
/-- What holds after the body at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (dats m 0 c).leavesExact 7 t)

set_option maxHeartbeats 4000000 in
/-- The body at a point of case A. -/
theorem sound_body_A (c : Dev nD) (t : Fin cfg0.N) (h : t.val % 11 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = iprop(iprop(owns (c : Thread nD τ) scM0_0 fullShare (outsAt0 m c t.val t.isLt).2 ∗ (∃ d, owns (c : Thread nD τ) scM0_1 fullShare d)) ∗ (∃ r, prngReg c r)) from rfl,
    PhiS_castSucc]
  rw [leaves0_7, after0_0, after0_1, after0_2, after0_3, after0_4, after0_5, after0_6, after0_7]
  rw [outsAt0_A m c t h]
  refine (sep_mono (PhiS_any m c _ _) .rfl).trans ?_
  rw [PhiA0_eq]
  dsimp only
  unfold out0_A_7 sout0_A_0
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h) ((hcond0_1 t).mpr h) (fun q => ((hcond0_2 t).mp q).1 h) (fun q => by have := (hcond0_3 t).mp q; omega) (iblk m c 0 t) (iblk m c 1 t) (iblk m c 2 t) (iblk m c 3 t) (iblk m c 4 t) (iblk m c 5 t) (iblk m c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_A_7 m c t h)

set_option maxHeartbeats 4000000 in
/-- The body at a point of case B. -/
theorem sound_body_B (c : Dev nD) (t : Fin cfg0.N) (h : t.val % 11 ≠ 0 ∧ t.val % 11 ≠ 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = iprop(iprop(owns (c : Thread nD τ) scM0_0 fullShare (outsAt0 m c t.val t.isLt).2 ∗ (∃ d, owns (c : Thread nD τ) scM0_1 fullShare d)) ∗ (∃ r, prngReg c r)) from rfl,
    PhiS_castSucc]
  rw [leaves0_7, after0_0, after0_1, after0_2, after0_3, after0_4, after0_5, after0_6, after0_7]
  have hz : t.val % 11 ≠ 0 := h.1
  rw [outsAt0_B m c t h, PhiS_pos m c _ _ (by intro q; rw [q] at hz; exact hz rfl)]
  simp only [before0_7 m c t hz]
  generalize outsAt0 m c (t.val - 1) (Nat.lt_of_le_of_lt (Nat.sub_le _ _) t.isLt) = p
  unfold out0_B_7
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun q => h.1 ((hcond0_0 t).mp q)) (fun q => h.1 ((hcond0_1 t).mp q)) ((hcond0_2 t).mpr h) (fun q => h.2 ((hcond0_3 t).mp q)) (iblk m c 0 t) (iblk m c 1 t) (iblk m c 2 t) (iblk m c 3 t) (iblk m c 4 t) (iblk m c 5 t) (iblk m c 6 t) p.1 p.2).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, ⟨%e7, H7⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_B_7 m c t h p)

set_option maxHeartbeats 4000000 in
/-- The body at a point of case C. -/
theorem sound_body_C (c : Dev nD) (t : Fin cfg0.N) (h : t.val % 11 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = iprop(iprop(owns (c : Thread nD τ) scM0_0 fullShare (outsAt0 m c t.val t.isLt).2 ∗ (∃ d, owns (c : Thread nD τ) scM0_1 fullShare d)) ∗ (∃ r, prngReg c r)) from rfl,
    PhiS_castSucc]
  rw [leaves0_7, after0_0, after0_1, after0_2, after0_3, after0_4, after0_5, after0_6, after0_7]
  have hz : t.val % 11 ≠ 0 := by omega
  rw [outsAt0_C m c t h, PhiS_pos m c _ _ (by intro q; rw [q] at hz; exact hz rfl)]
  simp only [before0_7 m c t hz]
  generalize outsAt0 m c (t.val - 1) (Nat.lt_of_le_of_lt (Nat.sub_le _ _) t.isLt) = p
  unfold out0_C_7
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun q => by have := (hcond0_0 t).mp q; omega) (fun q => by have := (hcond0_1 t).mp q; omega) (fun q => ((hcond0_2 t).mp q).2 h) ((hcond0_3 t).mpr h) (iblk m c 0 t) (iblk m c 1 t) (iblk m c 2 t) (iblk m c 3 t) (iblk m c 4 t) (iblk m c 5 t) (iblk m c 6 t) p.1 p.2).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, ⟨%e7, H7⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_C_7 m c t h p)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 11 = 0
  · exact sound_body_A m c t h
  · by_cases h' : t.val % 11 = 10
    · exact sound_body_C m c t h'
    · exact sound_body_B m c t ⟨h, h'⟩

/-- The body's definition at a point. -/
theorem defs₀_row (t : Fin cfg0.N) :
    defs₀ (F := F) .tc cfg0.body (cfg0.bodyArgs t (cfg0.slots t)) = bodyAt0 t := by
  unfold defs₀; rw [Defs.onTc_tc]

/-- The body at every point, as the launch asks it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it ends, at what the proof data compute, with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => .rfl) (hout := fun c => by dsimp only [dats]; exact PhiS_any m c _ _)

/-- The whole program runs and leaves what the data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were and every counter at zero. -/
theorem frame_ffn : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel2Ideal.Gen

end
-- ==== Proof.FfnBits.lean ====
/-
  The feed-forward kernel's text is the idealized kernel's, so that the run written once over any reading of
  the numbers is its run too.
-/
module

public import proofs.«01_k».proof.Defs
public import proofs.«01_k».proof.Proof.FfnFrame
public import proofs.«01_k».proof.Proof.Gen.Kernel2

@[expose] public section

noncomputable section

namespace Cert.FfnBits

open Idealize.ShloMosaic Idealize.SL.Sem

attribute [local instance] Cert.Kernel2.Gen.facts Cert.Kernel2Ideal.Gen.facts

/-- The two programs' kernel at one grid point is one text. -/
theorem row_eq (t : Fin Cert.Kernel2Ideal.grid0.N) (s : (w : Fin 8) → Fin (Cert.Kernel2Ideal.win0 w).nbuf) :
    (Cert.Kernel2.defs₀ (F := Bits)) .tc (0 : Fin 1) (t, s) = Cert.Kernel2Ideal.defs₀ (F := Bits) .tc (0 : Fin 1) (t, s) := rfl

/-- The two programs' tables of kernels are one table. -/
theorem defs0_eq : (Cert.Kernel2.defs₀ (F := Bits)) = Cert.Kernel2Ideal.defs₀ (F := Bits) := by
  funext κ ℓ a
  match κ, ℓ, a with
  | .tc, ⟨0, _⟩, (t, s) => exact row_eq t s
  | .scScalar _, ℓ, a => rfl
  | .scVector _ _, ℓ, a => rfl

/-- The two programs' tables of kernels and launches are one table. -/
theorem defs_eq : (Cert.Kernel2.defs (F := Bits)) = Cert.Kernel2Ideal.defs (F := Bits) :=
  congrArg (Pipeline.defs (Cert.Kernel2Ideal.pcfgs (F := Bits))) defs0_eq

/-- The two programs' host functions are one function. -/
theorem main_eq : (Cert.Kernel2.main (F := Bits)) = Cert.Kernel2Ideal.main (F := Bits) := rfl

/-- The feed-forward kernel runs, leaves its arguments as they were and every semaphore at zero. -/
theorem frame : Cert.quiescent_Kernel2 (hKernel2 := Cert.Kernel2.Gen.facts) := fun m ρ _ => by
  have h := Cert.Kernel2Ideal.Gen.frame_ffn (F := Bits) m ρ
  rw [← defs_eq, ← main_eq] at h
  exact h

end Cert.FfnBits

end
-- ==== Proof.FfnPay.lean ====
/-
  What one grid point of the feed-forward kernel computes from the kept normed rows, read element by element: the two
  halves of the up projection, their causal convolutions, the gated product, and its product with the down projection.
-/
module

public import proofs.«01_k».proof.Proof.FfnFrame
public import proofs.«01_k».proof.Proof.Scalars
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

/-- Where half 0's product is stored. -/
abbrev W0 : Rect S2x1040x512 := Rect.unit ![0, 0, 0] S1x1040x512.size inb_S2x1040x512_S1x1040x512_0_0_0
/-- The load of half 0 from row 14 on. -/
abbrev L0_14 : LoadRect S2x1040x512 := (Rect.unit (s := S2x1040x512) ![0, 14, 0] S1x1024x512.size inb_S2x1040x512_S1x1024x512_0_14_0).toLoadRect
/-- The load of half 0 from row 15 on. -/
abbrev L0_15 : LoadRect S2x1040x512 := (Rect.unit (s := S2x1040x512) ![0, 15, 0] S1x1024x512.size inb_S2x1040x512_S1x1024x512_0_15_0).toLoadRect
/-- The load of half 0 from row 16 on. -/
abbrev L0_16 : LoadRect S2x1040x512 := (Rect.unit (s := S2x1040x512) ![0, 16, 0] S1x1024x512.size inb_S2x1040x512_S1x1024x512_0_16_0).toLoadRect
/-- Where half 1's product is stored. -/
abbrev W1 : Rect S2x1040x512 := Rect.unit ![1, 0, 0] S1x1040x512.size inb_S2x1040x512_S1x1040x512_1_0_0
/-- The load of half 1 from row 14 on. -/
abbrev L1_14 : LoadRect S2x1040x512 := (Rect.unit (s := S2x1040x512) ![1, 14, 0] S1x1024x512.size inb_S2x1040x512_S1x1024x512_1_14_0).toLoadRect
/-- The load of half 1 from row 15 on. -/
abbrev L1_15 : LoadRect S2x1040x512 := (Rect.unit (s := S2x1040x512) ![1, 15, 0] S1x1024x512.size inb_S2x1040x512_S1x1024x512_1_15_0).toLoadRect
/-- The load of half 1 from row 16 on. -/
abbrev L1_16 : LoadRect S2x1040x512 := (Rect.unit (s := S2x1040x512) ![1, 16, 0] S1x1024x512.size inb_S2x1040x512_S1x1024x512_1_16_0).toLoadRect

/-- What a load of half 1 from row 14 on reads after its store. -/
theorem rc1_14 (P : Vec Ideal S1x1040x512 .f32) (r : Fin 1024) (k : Fin 512) :
    (View.whole cc0_scratch1).readCov (Val := Elt Ideal) [⟨W1, P⟩]
      L1_14 (ix3 (0 : Fin 1) r k) = P (ix3 (0 : Fin 1) (⟨14 + r.val, by omega⟩ : Fin 1040) k) := by
  have e : L1_14.idx (ix3 (0 : Fin 1) r k) = W1.emb (ix3 (0 : Fin 1) (⟨14 + r.val, by omega⟩ : Fin 1040) k) := by
    refine funext fun a => Fin.ext ?_
    fin_cases a
    · rfl
    · show 14 + 1 * r.val = 0 + 1 * (14 + r.val); omega
    · rfl
  rw [View.readCov_eq_canon']
  exact (congrArg (View.canon _) e).trans (View.canon_cons_emb W1 P _ _)

/-- What a load of half 0 from row 14 on reads after the two halves' stores. -/
theorem rc0_14 (P Q : Vec Ideal S1x1040x512 .f32) (r : Fin 1024) (k : Fin 512) :
    (View.whole cc0_scratch1).readCov (Val := Elt Ideal) [⟨W0, P⟩,
      ⟨W1, Q⟩]
      L0_14 (ix3 (0 : Fin 1) r k) = P (ix3 (0 : Fin 1) (⟨14 + r.val, by omega⟩ : Fin 1040) k) := by
  have e : L0_14.idx (ix3 (0 : Fin 1) r k) = W0.emb (ix3 (0 : Fin 1) (⟨14 + r.val, by omega⟩ : Fin 1040) k) := by
    refine funext fun a => Fin.ext ?_
    fin_cases a
    · rfl
    · show 14 + 1 * r.val = 0 + 1 * (14 + r.val); omega
    · rfl
  rw [View.readCov_eq_canon']
  exact (congrArg (View.canon _) e).trans (View.canon_cons_emb W0 P _ _)

/-- What a load of half 1 from row 15 on reads after its store. -/
theorem rc1_15 (P : Vec Ideal S1x1040x512 .f32) (r : Fin 1024) (k : Fin 512) :
    (View.whole cc0_scratch1).readCov (Val := Elt Ideal) [⟨W1, P⟩]
      L1_15 (ix3 (0 : Fin 1) r k) = P (ix3 (0 : Fin 1) (⟨15 + r.val, by omega⟩ : Fin 1040) k) := by
  have e : L1_15.idx (ix3 (0 : Fin 1) r k) = W1.emb (ix3 (0 : Fin 1) (⟨15 + r.val, by omega⟩ : Fin 1040) k) := by
    refine funext fun a => Fin.ext ?_
    fin_cases a
    · rfl
    · show 15 + 1 * r.val = 0 + 1 * (15 + r.val); omega
    · rfl
  rw [View.readCov_eq_canon']
  exact (congrArg (View.canon _) e).trans (View.canon_cons_emb W1 P _ _)

/-- What a load of half 0 from row 15 on reads after the two halves' stores. -/
theorem rc0_15 (P Q : Vec Ideal S1x1040x512 .f32) (r : Fin 1024) (k : Fin 512) :
    (View.whole cc0_scratch1).readCov (Val := Elt Ideal) [⟨W0, P⟩,
      ⟨W1, Q⟩]
      L0_15 (ix3 (0 : Fin 1) r k) = P (ix3 (0 : Fin 1) (⟨15 + r.val, by omega⟩ : Fin 1040) k) := by
  have e : L0_15.idx (ix3 (0 : Fin 1) r k) = W0.emb (ix3 (0 : Fin 1) (⟨15 + r.val, by omega⟩ : Fin 1040) k) := by
    refine funext fun a => Fin.ext ?_
    fin_cases a
    · rfl
    · show 15 + 1 * r.val = 0 + 1 * (15 + r.val); omega
    · rfl
  rw [View.readCov_eq_canon']
  exact (congrArg (View.canon _) e).trans (View.canon_cons_emb W0 P _ _)

/-- What a load of half 1 from row 16 on reads after its store. -/
theorem rc1_16 (P : Vec Ideal S1x1040x512 .f32) (r : Fin 1024) (k : Fin 512) :
    (View.whole cc0_scratch1).readCov (Val := Elt Ideal) [⟨W1, P⟩]
      L1_16 (ix3 (0 : Fin 1) r k) = P (ix3 (0 : Fin 1) (⟨16 + r.val, by omega⟩ : Fin 1040) k) := by
  have e : L1_16.idx (ix3 (0 : Fin 1) r k) = W1.emb (ix3 (0 : Fin 1) (⟨16 + r.val, by omega⟩ : Fin 1040) k) := by
    refine funext fun a => Fin.ext ?_
    fin_cases a
    · rfl
    · show 16 + 1 * r.val = 0 + 1 * (16 + r.val); omega
    · rfl
  rw [View.readCov_eq_canon']
  exact (congrArg (View.canon _) e).trans (View.canon_cons_emb W1 P _ _)

/-- What a load of half 0 from row 16 on reads after the two halves' stores. -/
theorem rc0_16 (P Q : Vec Ideal S1x1040x512 .f32) (r : Fin 1024) (k : Fin 512) :
    (View.whole cc0_scratch1).readCov (Val := Elt Ideal) [⟨W0, P⟩,
      ⟨W1, Q⟩]
      L0_16 (ix3 (0 : Fin 1) r k) = P (ix3 (0 : Fin 1) (⟨16 + r.val, by omega⟩ : Fin 1040) k) := by
  have e : L0_16.idx (ix3 (0 : Fin 1) r k) = W0.emb (ix3 (0 : Fin 1) (⟨16 + r.val, by omega⟩ : Fin 1040) k) := by
    refine funext fun a => Fin.ext ?_
    fin_cases a
    · rfl
    · show 16 + 1 * r.val = 0 + 1 * (16 + r.val); omega
    · rfl
  rw [View.readCov_eq_canon']
  exact (congrArg (View.canon _) e).trans (View.canon_cons_emb W0 P _ _)

/-- The up projection of the kept rows by one block of columns. -/
theorem pay13_at (w : Vec Ideal S1x2048x512 .bf16) (H : Vec Ideal S1040x2048 .bf16) (q : Fin 1040) (k : Fin 512) :
    k0_pay13 w H (ix3 (0 : Fin 1) q k) = ∑ d : Fin 2048, H (ix2 q d) * w (ix3 (0 : Fin 1) d k) := by
  pointwise [k0_pay13]

/-- The other half's, the same text. -/
theorem pay18_at (w : Vec Ideal S1x2048x512 .bf16) (H : Vec Ideal S1040x2048 .bf16) (q : Fin 1040) (k : Fin 512) :
    k0_pay18 w H (ix3 (0 : Fin 1) q k) = ∑ d : Fin 2048, H (ix2 q d) * w (ix3 (0 : Fin 1) d k) := by
  pointwise [k0_pay18]

/-- The causal convolution of the gate's half, at an element. -/
theorem pay17_at (b w0 w1 w2 : Vec Ideal S1x1x512 .f32) (u0 u1 u2 : Vec Ideal S1x1024x512 .f32) (r : Fin 1024) (k : Fin 512) :
    k0_pay17 (k0_pay14 b w0 u0 w1 u1) (k0_pay15 u2) (k0_pay16 w2) (ix2 r k)
      = b (ix3 (0 : Fin 1) (0 : Fin 1) k) + w0 (ix3 (0 : Fin 1) (0 : Fin 1) k) * u0 (ix3 (0 : Fin 1) r k)
        + w1 (ix3 (0 : Fin 1) (0 : Fin 1) k) * u1 (ix3 (0 : Fin 1) r k) + w2 (ix3 (0 : Fin 1) (0 : Fin 1) k) * u2 (ix3 (0 : Fin 1) r k) := by
  pointwise [k0_pay17, k0_pay14, k0_pay15, k0_pay16]

/-- The causal convolution of the value's half, at an element. -/
theorem pay3_at (b w0 w1 w2 : Vec Ideal S1x1x512 .f32) (u0 u1 u2 : Vec Ideal S1x1024x512 .f32) (r : Fin 1024) (k : Fin 512) :
    k0_pay3 (k0_pay19 b w0 u0 w1 u1) (k0_pay20 w2) u2 (ix2 r k)
      = b (ix3 (0 : Fin 1) (0 : Fin 1) k) + w0 (ix3 (0 : Fin 1) (0 : Fin 1) k) * u0 (ix3 (0 : Fin 1) r k)
        + w1 (ix3 (0 : Fin 1) (0 : Fin 1) k) * u1 (ix3 (0 : Fin 1) r k) + w2 (ix3 (0 : Fin 1) (0 : Fin 1) k) * u2 (ix3 (0 : Fin 1) r k) := by
  pointwise [k0_pay3, k0_pay19, k0_pay20]

/-- The silu as the kernel writes it. -/
def silu' (v : EReal) : EReal := Ideal.ofBits .f32 0x3F000000#32 * v + Ideal.ofBits .f32 0x3F000000#32 * v * Ideal.tanh (Ideal.ofBits .f32 0x3F000000#32 * v)

/-- The first half's product with the down projection. -/
theorem pay4_at (g v68 : FVec Ideal S1024x512 .f32) (v70 : FVec Ideal S1x512 .f32) (v71 : Vec Ideal S1x1024x512 .f32) (w : Vec Ideal S256x2048 .bf16)
    (r : Fin 1024) (e : Fin 2048) :
    k0_pay4 g v68 v70 v71 w (ix2 r e) = ∑ k : Fin 256, silu' (g (ix2 r (⟨0 + k.val, by omega⟩ : Fin 512)))
      * k0_pay3 v68 v70 v71 (ix2 r (⟨0 + k.val, by omega⟩ : Fin 512)) * w (ix2 k e) := by
  unfold silu'
  pointwise [k0_pay4]

/-- The second half's, added to what is there. -/
theorem pay5_at (g v68 : FVec Ideal S1024x512 .f32) (v70 : FVec Ideal S1x512 .f32) (v71 : Vec Ideal S1x1024x512 .f32) (w : Vec Ideal S256x2048 .bf16)
    (o : Vec Ideal S1024x2048 .f32) (r : Fin 1024) (e : Fin 2048) :
    k0_pay5 g v68 v70 v71 w o (ix2 r e) = o (ix2 r e) + ∑ k : Fin 256, silu' (g (ix2 r (⟨256 + k.val, by omega⟩ : Fin 512)))
      * k0_pay3 v68 v70 v71 (ix2 r (⟨256 + k.val, by omega⟩ : Fin 512)) * w (ix2 k e) := by
  unfold silu'
  pointwise [k0_pay5]

/-- The first half's, added to what is there. -/
theorem pay7_at (g v68 : FVec Ideal S1024x512 .f32) (v70 : FVec Ideal S1x512 .f32) (v71 : Vec Ideal S1x1024x512 .f32) (w : Vec Ideal S256x2048 .bf16)
    (o : Vec Ideal S1024x2048 .f32) (r : Fin 1024) (e : Fin 2048) :
    k0_pay7 g v68 v70 v71 w o (ix2 r e) = o (ix2 r e) + k0_pay4 g v68 v70 v71 w (ix2 r e) := by
  pointwise [k0_pay7, k0_pay4]
  rfl

/-- The last store: the residual and the scaled product. -/
theorem pay9_at (x o : Vec Ideal S1024x2048 .f32) (g : Vec Ideal S1x1x2048 .f32) (r : Fin 1024) (e : Fin 2048) :
    k0_pay9 (k0_pay39 x) o (k0_pay41 g) (ix2 r e) = x (ix2 r e) + g (ix3 (0 : Fin 1) (0 : Fin 1) e) * o (ix2 r e) := by
  pointwise [k0_pay9, k0_pay39, k0_pay41]

variable (H : Vec Ideal S1040x2048 .bf16) (x4 : Vec Ideal S1x2048x1024 .bf16) (x5 : Vec Ideal S2x4x512 .f32) (x6 : Vec Ideal S512x2048 .bf16)

/-- The up projection of kept row `q` to column `k` of half `p`. -/
def up (p : Fin 2) (q : Fin 1040) (k : Fin 512) : EReal :=
  ∑ d : Fin 2048, H (ix2 q d) * x4 (ix3 (0 : Fin 1) d (⟨512 * p.val + k.val, by omega⟩ : Fin 1024))

/-- The causal convolution at token row `r` of the tile. -/
def conv (p : Fin 2) (r : Fin 1024) (k : Fin 512) : EReal :=
  x5 (ix3 p (3 : Fin 4) k) + x5 (ix3 p (0 : Fin 4) k) * up H x4 p ⟨14 + r.val, by omega⟩ k
    + x5 (ix3 p (1 : Fin 4) k) * up H x4 p ⟨15 + r.val, by omega⟩ k + x5 (ix3 p (2 : Fin 4) k) * up H x4 p ⟨16 + r.val, by omega⟩ k

/-- The gated product. -/
def act (r : Fin 1024) (k : Fin 512) : EReal := silu' (conv H x4 x5 1 r k) * conv H x4 x5 0 r k

/-- One half-block's share of the down projection. -/
def part (kh : Fin 2) (r : Fin 1024) (e : Fin 2048) : EReal :=
  ∑ k : Fin 256, act H x4 x5 r ⟨256 * kh.val + k.val, by omega⟩ * x6 (ix2 (⟨256 * kh.val + k.val, by omega⟩ : Fin 512) e)

/-- The gate's half as the kernel's text has it. -/
def gateT : FVec Ideal S1024x512 .f32 :=
  k0_pay17 (k0_pay14 (View.ld x5 (Rect.unit ![1, 3, 0] ![1, 1, 512] inb_S2x4x512_S1x1x512_1_3_0)) (View.ld x5 (Rect.unit ![1, 0, 0] ![1, 1, 512] inb_S2x4x512_S1x1x512_1_0_0))
      ((View.whole cc0_scratch1).readCov (Val := Elt Ideal) [⟨W1, k0_pay13 (View.ld x4 (Rect.unit ![0, 0, 512] ![1, 2048, 512] inb_S1x2048x1024_S1x2048x512_0_0_512)) H⟩]
      L1_14)
    (View.ld x5 (Rect.unit ![1, 1, 0] ![1, 1, 512] inb_S2x4x512_S1x1x512_1_1_0))
      ((View.whole cc0_scratch1).readCov (Val := Elt Ideal) [⟨W1, k0_pay13 (View.ld x4 (Rect.unit ![0, 0, 512] ![1, 2048, 512] inb_S1x2048x1024_S1x2048x512_0_0_512)) H⟩]
      L1_15))
    (k0_pay15 ((View.whole cc0_scratch1).readCov (Val := Elt Ideal) [⟨W1, k0_pay13 (View.ld x4 (Rect.unit ![0, 0, 512] ![1, 2048, 512] inb_S1x2048x1024_S1x2048x512_0_0_512)) H⟩]
      L1_16))
    (k0_pay16 (View.ld x5 (Rect.unit ![1, 2, 0] ![1, 1, 512] inb_S2x4x512_S1x1x512_1_2_0)))

/-- The value's half but for its last tap, as the kernel's text has it. -/
def v68T : FVec Ideal S1024x512 .f32 :=
  k0_pay19 (View.ld x5 (Rect.unit ![0, 3, 0] ![1, 1, 512] inb_S2x4x512_S1x1x512_0_3_0)) (View.ld x5 (Rect.unit ![0, 0, 0] ![1, 1, 512] inb_S2x4x512_S1x1x512_0_0_0))
      ((View.whole cc0_scratch1).readCov (Val := Elt Ideal) [⟨W0, k0_pay18 (View.ld x4 (Rect.unit ![0, 0, 0] ![1, 2048, 512] inb_S1x2048x1024_S1x2048x512_0_0_0)) H⟩,
      ⟨W1, k0_pay13 (View.ld x4 (Rect.unit ![0, 0, 512] ![1, 2048, 512] inb_S1x2048x1024_S1x2048x512_0_0_512)) H⟩]
      L0_14)
    (View.ld x5 (Rect.unit ![0, 1, 0] ![1, 1, 512] inb_S2x4x512_S1x1x512_0_1_0))
      ((View.whole cc0_scratch1).readCov (Val := Elt Ideal) [⟨W0, k0_pay18 (View.ld x4 (Rect.unit ![0, 0, 0] ![1, 2048, 512] inb_S1x2048x1024_S1x2048x512_0_0_0)) H⟩,
      ⟨W1, k0_pay13 (View.ld x4 (Rect.unit ![0, 0, 512] ![1, 2048, 512] inb_S1x2048x1024_S1x2048x512_0_0_512)) H⟩]
      L0_15)

/-- The last tap's weight. -/
def v70T : FVec Ideal S1x512 .f32 := k0_pay20 (View.ld x5 (Rect.unit ![0, 2, 0] ![1, 1, 512] inb_S2x4x512_S1x1x512_0_2_0))

/-- The last tap's rows. -/
def v71T : Vec Ideal S1x1024x512 .f32 := ((View.whole cc0_scratch1).readCov (Val := Elt Ideal) [⟨W0, k0_pay18 (View.ld x4 (Rect.unit ![0, 0, 0] ![1, 2048, 512] inb_S1x2048x1024_S1x2048x512_0_0_0)) H⟩,
      ⟨W1, k0_pay13 (View.ld x4 (Rect.unit ![0, 0, 512] ![1, 2048, 512] inb_S1x2048x1024_S1x2048x512_0_0_512)) H⟩]
      L0_16)

/-- The value half's row 0 of the convolution's parameters (tap 0's weights). -/
theorem ld5_00 (k : Fin 512) : (View.ld x5 (Rect.unit ![0, 0, 0] ![1, 1, 512] inb_S2x4x512_S1x1x512_0_0_0)) (ix3 (0 : Fin 1) (0 : Fin 1) k) = x5 (ix3 (0 : Fin 2) (0 : Fin 4) k) :=
  congrArg x5 (funext fun a => Fin.ext (by
    fin_cases a
    · rfl
    · rfl
    · show 0 + 1 * k.val = k.val; omega))
/-- The value half's row 1 of the convolution's parameters (tap 1's weights). -/
theorem ld5_01 (k : Fin 512) : (View.ld x5 (Rect.unit ![0, 1, 0] ![1, 1, 512] inb_S2x4x512_S1x1x512_0_1_0)) (ix3 (0 : Fin 1) (0 : Fin 1) k) = x5 (ix3 (0 : Fin 2) (1 : Fin 4) k) :=
  congrArg x5 (funext fun a => Fin.ext (by
    fin_cases a
    · rfl
    · rfl
    · show 0 + 1 * k.val = k.val; omega))
/-- The value half's row 2 of the convolution's parameters (tap 2's weights). -/
theorem ld5_02 (k : Fin 512) : (View.ld x5 (Rect.unit ![0, 2, 0] ![1, 1, 512] inb_S2x4x512_S1x1x512_0_2_0)) (ix3 (0 : Fin 1) (0 : Fin 1) k) = x5 (ix3 (0 : Fin 2) (2 : Fin 4) k) :=
  congrArg x5 (funext fun a => Fin.ext (by
    fin_cases a
    · rfl
    · rfl
    · show 0 + 1 * k.val = k.val; omega))
/-- The value half's row 3 of the convolution's parameters (the bias). -/
theorem ld5_03 (k : Fin 512) : (View.ld x5 (Rect.unit ![0, 3, 0] ![1, 1, 512] inb_S2x4x512_S1x1x512_0_3_0)) (ix3 (0 : Fin 1) (0 : Fin 1) k) = x5 (ix3 (0 : Fin 2) (3 : Fin 4) k) :=
  congrArg x5 (funext fun a => Fin.ext (by
    fin_cases a
    · rfl
    · rfl
    · show 0 + 1 * k.val = k.val; omega))
/-- The value half's columns of the up projection. -/
theorem ld4_0 (d : Fin 2048) (k : Fin 512) : (View.ld x4 (Rect.unit ![0, 0, 0] ![1, 2048, 512] inb_S1x2048x1024_S1x2048x512_0_0_0)) (ix3 (0 : Fin 1) d k) = x4 (ix3 (0 : Fin 1) d (⟨512 * (0 : Fin 2).val + k.val, by simp; omega⟩ : Fin 1024)) :=
  congrArg x4 (funext fun a => Fin.ext (by
    fin_cases a
    · rfl
    · show 0 + 1 * d.val = d.val; omega
    · show 0 + 1 * k.val = 512 * 0 + k.val; omega))
/-- The gate half's row 0 of the convolution's parameters (tap 0's weights). -/
theorem ld5_10 (k : Fin 512) : (View.ld x5 (Rect.unit ![1, 0, 0] ![1, 1, 512] inb_S2x4x512_S1x1x512_1_0_0)) (ix3 (0 : Fin 1) (0 : Fin 1) k) = x5 (ix3 (1 : Fin 2) (0 : Fin 4) k) :=
  congrArg x5 (funext fun a => Fin.ext (by
    fin_cases a
    · rfl
    · rfl
    · show 0 + 1 * k.val = k.val; omega))
/-- The gate half's row 1 of the convolution's parameters (tap 1's weights). -/
theorem ld5_11 (k : Fin 512) : (View.ld x5 (Rect.unit ![1, 1, 0] ![1, 1, 512] inb_S2x4x512_S1x1x512_1_1_0)) (ix3 (0 : Fin 1) (0 : Fin 1) k) = x5 (ix3 (1 : Fin 2) (1 : Fin 4) k) :=
  congrArg x5 (funext fun a => Fin.ext (by
    fin_cases a
    · rfl
    · rfl
    · show 0 + 1 * k.val = k.val; omega))
/-- The gate half's row 2 of the convolution's parameters (tap 2's weights). -/
theorem ld5_12 (k : Fin 512) : (View.ld x5 (Rect.unit ![1, 2, 0] ![1, 1, 512] inb_S2x4x512_S1x1x512_1_2_0)) (ix3 (0 : Fin 1) (0 : Fin 1) k) = x5 (ix3 (1 : Fin 2) (2 : Fin 4) k) :=
  congrArg x5 (funext fun a => Fin.ext (by
    fin_cases a
    · rfl
    · rfl
    · show 0 + 1 * k.val = k.val; omega))
/-- The gate half's row 3 of the convolution's parameters (the bias). -/
theorem ld5_13 (k : Fin 512) : (View.ld x5 (Rect.unit ![1, 3, 0] ![1, 1, 512] inb_S2x4x512_S1x1x512_1_3_0)) (ix3 (0 : Fin 1) (0 : Fin 1) k) = x5 (ix3 (1 : Fin 2) (3 : Fin 4) k) :=
  congrArg x5 (funext fun a => Fin.ext (by
    fin_cases a
    · rfl
    · rfl
    · show 0 + 1 * k.val = k.val; omega))
/-- The gate half's columns of the up projection. -/
theorem ld4_1 (d : Fin 2048) (k : Fin 512) : (View.ld x4 (Rect.unit ![0, 0, 512] ![1, 2048, 512] inb_S1x2048x1024_S1x2048x512_0_0_512)) (ix3 (0 : Fin 1) d k) = x4 (ix3 (0 : Fin 1) d (⟨512 * (1 : Fin 2).val + k.val, by simp; omega⟩ : Fin 1024)) :=
  congrArg x4 (funext fun a => Fin.ext (by
    fin_cases a
    · rfl
    · show 0 + 1 * d.val = d.val; omega
    · show 512 + 1 * k.val = 512 * 1 + k.val; omega))

/-- The product kept for the gate half is the kept rows times that half's columns. -/
theorem up1_at (q : Fin 1040) (k : Fin 512) :
    k0_pay13 (View.ld x4 (Rect.unit ![0, 0, 512] ![1, 2048, 512] inb_S1x2048x1024_S1x2048x512_0_0_512)) H (ix3 (0 : Fin 1) q k) = up H x4 1 q k :=
  (pay13_at _ _ _ _).trans (Finset.sum_congr rfl fun d _ => congrArg (H (ix2 q d) * ·) (ld4_1 x4 d k))

/-- The product kept for the value half is the kept rows times that half's columns. -/
theorem up0_at (q : Fin 1040) (k : Fin 512) :
    k0_pay18 (View.ld x4 (Rect.unit ![0, 0, 0] ![1, 2048, 512] inb_S1x2048x1024_S1x2048x512_0_0_0)) H (ix3 (0 : Fin 1) q k) = up H x4 0 q k :=
  (pay18_at _ _ _ _).trans (Finset.sum_congr rfl fun d _ => congrArg (H (ix2 q d) * ·) (ld4_0 x4 d k))

/-- The gate tile is the convolved gate half. -/
theorem gateT_at (r : Fin 1024) (k : Fin 512) : gateT H x4 x5 (ix2 r k) = conv H x4 x5 1 r k := by
  unfold gateT
  rw [pay17_at, rc1_14, rc1_15, rc1_16, up1_at, up1_at, up1_at, ld5_10, ld5_11, ld5_12, ld5_13]
  rfl

/-- The value tile is the convolved value half. -/
theorem valT_at (r : Fin 1024) (k : Fin 512) : k0_pay3 (v68T H x4 x5) (v70T x5) (v71T H x4) (ix2 r k) = conv H x4 x5 0 r k := by
  unfold v68T v70T v71T
  rw [pay3_at, rc0_14, rc0_15, rc0_16, up0_at, up0_at, up0_at, ld5_00, ld5_01, ld5_02, ld5_03]
  rfl

/-- The down projection's first half of rows. -/
abbrev w0T : Vec Ideal S256x2048 .bf16 := View.ld x6 (Rect.unit ![0, 0] ![256, 2048] inb_S512x2048_S256x2048_0_0)
/-- The down projection's second half of rows. -/
abbrev w1T : Vec Ideal S256x2048 .bf16 := View.ld x6 (Rect.unit ![256, 0] ![256, 2048] inb_S512x2048_S256x2048_256_0)

/-- What the first store of a point holds: the first half's share of the down projection. -/
theorem part0_at (r : Fin 1024) (e : Fin 2048) :
    k0_pay4 (gateT H x4 x5) (v68T H x4 x5) (v70T x5) (v71T H x4) (w0T x6) (ix2 r e) = part H x4 x5 x6 0 r e := by
  rw [pay4_at]
  unfold part act
  refine Finset.sum_congr rfl fun k _ => ?_
  rw [gateT_at, valT_at]
  exact congrArg _ (congrArg x6 (funext fun a => Fin.ext (by
    fin_cases a
    · show 0 + 1 * k.val = 256 * 0 + k.val; omega
    · show 0 + 1 * e.val = e.val; omega)))

/-- What the second store of a point holds: the stored block plus the second half's share. -/
theorem part1_at (o : Vec Ideal S1024x2048 .f32) (r : Fin 1024) (e : Fin 2048) :
    k0_pay5 (gateT H x4 x5) (v68T H x4 x5) (v70T x5) (v71T H x4) (w1T x6) o (ix2 r e) = o (ix2 r e) + part H x4 x5 x6 1 r e := by
  rw [pay5_at]
  unfold part act
  refine congrArg (o (ix2 r e) + ·) (Finset.sum_congr rfl fun k _ => ?_)
  rw [gateT_at, valT_at]
  exact congrArg _ (congrArg x6 (funext fun a => Fin.ext (by
    fin_cases a
    · show 256 + 1 * k.val = 256 * 1 + k.val; omega
    · show 0 + 1 * e.val = e.val; omega)))

end Cert.Ffn

end
-- ==== Proof.FfnTables.lean ====
/-
  The arrays the feed-forward kernel reads, and its blocks of them, in terms of the arguments.
-/
module

public import proofs.«01_k».proof.Proof.FfnFrame
public import proofs.«01_k».proof.Proof.Scalars
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- Where each window's block lies at grid point `t = 11 i + j`. -/
theorem idx : ∀ t : Fin cfg0.N, win0_0.index t = ![t.val / 11, 0] ∧ win0_1.index t = ![t.val / 11 * 64 - 1, 0] ∧ win0_2.index t = ![t.val / 11 / 2, 0, 0]
    ∧ win0_3.index t = ![0, 0] ∧ win0_4.index t = ![t.val % 11, 0, 0] ∧ win0_5.index t = ![0, 0, t.val % 11] ∧ win0_6.index t = ![t.val % 11, 0]
    ∧ win0_7.index t = ![t.val / 11, 0] :=
  (by decide +kernel : ∀ t : Fin grid0.N, _)

/-- The tile of grid point `t`. -/
theorem coord : ∀ t : Fin cfg0.N, (grid0.coords t 0).val = t.val / 11 :=
  (by decide +kernel : ∀ t : Fin grid0.N, _)

/-- The tokens' rows, flat. -/
theorem V_0 (c : Dev nD) (n : Fin 8192) (e : Fin 2048) : (V m c main_v0 : FVec Ideal S8192x2048 .f32) (ix2 n e)
    = (m ((c : Thread nD τ).loc main_arg0) : FVec Ideal S4x2048x2048 .f32) (ix3 (⟨n.val / 2048, by omega⟩ : Fin 4) (⟨n.val % 2048, by omega⟩ : Fin 2048) e) := by
  entry_read
  pointwise []
/-- The modulation, in six parts. -/
theorem V_1 (c : Dev nD) (b : Fin 4) (q : Fin 6) (e : Fin 2048) : (V m c main_v1 : FVec Ideal S4x6x2048 .f32) (ix3 b q e)
    = (m ((c : Thread nD τ).loc main_arg1) : FVec Ideal S4x12288 .f32) (ix2 b (⟨2048 * q.val + e.val, by omega⟩ : Fin 12288)) := by
  entry_read
  pointwise []
  exact congrArg (m _) (congrArg (ix2 b) (Fin.ext (by show q.val * 2048 + e.val = 2048 * q.val + e.val; omega)))
/-- The up projection, regrouped by blocks of columns. -/
theorem V_6 (c : Dev nD) (j : Fin 11) (d : Fin 2048) (p : Fin 2) (k : Fin 512) : (V m c main_v6 : FVec Ideal S11x2048x1024 .bf16) (ix3 j d (⟨512 * p.val + k.val, by omega⟩ : Fin 1024))
    = (m ((c : Thread nD τ).loc main_arg3) : FVec Ideal S1x2048x11264 .f32) (ix3 (0 : Fin 1) d (⟨5632 * p.val + 512 * j.val + k.val, by omega⟩ : Fin 11264)) := by
  entry_read
  pointwise []
  exact congrArg (m _) (congrArg (ix3 (0 : Fin 1) d) (Fin.ext (by show p.val * 5632 + j.val * 512 + k.val = 5632 * p.val + 512 * j.val + k.val; omega)))
/-- The down projection. -/
theorem V_8 (c : Dev nD) (k : Fin 5632) (e : Fin 2048) : (V m c main_v8 : FVec Ideal S5632x2048 .bf16) (ix2 k e)
    = (m ((c : Thread nD τ).loc main_arg6) : FVec Ideal S1x5632x2048 .f32) (ix3 (0 : Fin 1) k e) := by
  entry_read
  pointwise []
/-- The three taps. -/
theorem V_12 (c : Dev nD) (p : Fin 2) (q : Fin 3) (k : Fin 5632) : (V m c main_v12 : FVec Ideal S2x4x5632 .f32) (ix3 p (⟨q.val, by omega⟩ : Fin 4) k)
    = (m ((c : Thread nD τ).loc main_arg4) : FVec Ideal S1x3x11264 .f32) (ix3 (0 : Fin 1) q (⟨5632 * p.val + k.val, by omega⟩ : Fin 11264)) := by
  entry_read
  pointwise []
  exact congrArg (m _) (congrArg (ix3 (0 : Fin 1) q) (Fin.ext (by show p.val * 5632 + k.val = 5632 * p.val + k.val; omega)))
/-- The bias, below the taps. -/
theorem V_12' (c : Dev nD) (p : Fin 2) (k : Fin 5632) : (V m c main_v12 : FVec Ideal S2x4x5632 .f32) (ix3 p (3 : Fin 4) k)
    = (m ((c : Thread nD τ).loc main_arg5) : FVec Ideal S1x11264 .f32) (ix2 (0 : Fin 1) (⟨5632 * p.val + k.val, by omega⟩ : Fin 11264)) := by
  entry_read
  pointwise []
  exact congrArg (m _) (congrArg (ix2 (0 : Fin 1)) (Fin.ext (by show p.val * 5632 + k.val = 5632 * p.val + k.val; omega)))

/-- Window 0's block at a grid point. -/
abbrev b0 (c : Dev nD) (t : Fin cfg0.N) : Vec Ideal S1024x2048 .f32 := iblk m c 0 t

/-- Window 1's block at a grid point. -/
abbrev b1 (c : Dev nD) (t : Fin cfg0.N) : Vec Ideal S16x2048 .f32 := iblk m c 1 t

/-- Window 2's block at a grid point. -/
abbrev b2 (c : Dev nD) (t : Fin cfg0.N) : Vec Ideal S1x6x2048 .f32 := iblk m c 2 t

/-- Window 3's block at a grid point. -/
abbrev b3 (c : Dev nD) (t : Fin cfg0.N) : Vec Ideal S1x2048 .f32 := iblk m c 3 t

/-- Window 4's block at a grid point. -/
abbrev b4 (c : Dev nD) (t : Fin cfg0.N) : Vec Ideal S1x2048x1024 .bf16 := iblk m c 4 t

/-- Window 5's block at a grid point. -/
abbrev b5 (c : Dev nD) (t : Fin cfg0.N) : Vec Ideal S2x4x512 .f32 := iblk m c 5 t

/-- Window 6's block at a grid point. -/
abbrev b6 (c : Dev nD) (t : Fin cfg0.N) : Vec Ideal S512x2048 .bf16 := iblk m c 6 t

/-- Grid points number 88. -/
theorem t_lt (t : Fin cfg0.N) : t.val < 88 := lt_of_lt_of_eq t.isLt N_0

/-- Window 0's block, the tokens, element by element in its array. -/
theorem b0_at (c : Dev nD) (t : Fin cfg0.N) (r : Fin 1024) (e : Fin 2048) (h : 1024 * (t.val / 11) + r.val < 8192) :
    b0 m c t (ix2 r e) = (V m c main_v0 : FVec Ideal S8192x2048 .f32) (ix2 (⟨1024 * (t.val / 11) + r.val, h⟩ : Fin 8192) e) := by
  have h : b0 m c t (ix2 r e : S1024x2048.Idx) = V m c main_v0 (ix2 (⟨1024 * (t.val / 11) + r.val, h⟩ : Fin 8192) e) := by blk_ext [iblk, idx t]
  exact h
/-- Window 1's block, the halo rows, element by element in its array. -/
theorem b1_at (c : Dev nD) (t : Fin cfg0.N) (r : Fin 16) (e : Fin 2048) (h : 16 * (t.val / 11 * 64 - 1) + r.val < 8192) :
    b1 m c t (ix2 r e) = (V m c main_v0 : FVec Ideal S8192x2048 .f32) (ix2 (⟨16 * (t.val / 11 * 64 - 1) + r.val, h⟩ : Fin 8192) e) := by
  have h : b1 m c t (ix2 r e : S16x2048.Idx) = V m c main_v0 (ix2 (⟨16 * (t.val / 11 * 64 - 1) + r.val, h⟩ : Fin 8192) e) := by blk_ext [iblk, idx t]
  exact h
/-- Window 2's block, the modulation, element by element in its array. -/
theorem b2_at (c : Dev nD) (t : Fin cfg0.N) (q : Fin 6) (e : Fin 2048) (h : t.val / 11 / 2 < 4) :
    b2 m c t (ix3 (0 : Fin 1) q e) = (V m c main_v1 : FVec Ideal S4x6x2048 .f32) (ix3 (⟨t.val / 11 / 2, h⟩ : Fin 4) q e) := by
  have h : b2 m c t (ix3 (0 : Fin 1) q e : S1x6x2048.Idx) = V m c main_v1 (ix3 (⟨t.val / 11 / 2, h⟩ : Fin 4) q e) := by blk_ext [iblk, idx t]
  exact h
/-- Window 3's block, the norm's gain, element by element in its array. -/
theorem b3_at (c : Dev nD) (t : Fin cfg0.N) (e : Fin 2048) :
    b3 m c t (ix2 (0 : Fin 1) e) = (m ((c : Thread nD τ).loc main_arg2) : FVec Ideal S1x2048 .f32) (ix2 (0 : Fin 1) e) := by
  have h : b3 m c t (ix2 (0 : Fin 1) e : S1x2048.Idx) = V m c main_arg2 (ix2 (0 : Fin 1) e) := by blk_ext [iblk, idx t]
  refine h.trans ?_
  entry_read
  rfl
/-- Window 4's block, the up projection, element by element in its array. -/
theorem b4_at (c : Dev nD) (t : Fin cfg0.N) (d : Fin 2048) (k : Fin 1024) :
    b4 m c t (ix3 (0 : Fin 1) d k) = (V m c main_v6 : FVec Ideal S11x2048x1024 .bf16) (ix3 (⟨t.val % 11, Nat.mod_lt _ (by decide)⟩ : Fin 11) d k) := by
  have h : b4 m c t (ix3 (0 : Fin 1) d k : S1x2048x1024.Idx) = V m c main_v6 (ix3 (⟨t.val % 11, Nat.mod_lt _ (by decide)⟩ : Fin 11) d k) := by blk_ext [iblk, idx t]
  exact h
/-- Window 5's block, the convolution's parameters, element by element in its array. -/
theorem b5_at (c : Dev nD) (t : Fin cfg0.N) (p : Fin 2) (q : Fin 4) (k : Fin 512) (h : 512 * (t.val % 11) + k.val < 5632) :
    b5 m c t (ix3 p q k) = (V m c main_v12 : FVec Ideal S2x4x5632 .f32) (ix3 p q (⟨512 * (t.val % 11) + k.val, h⟩ : Fin 5632)) := by
  have h : b5 m c t (ix3 p q k : S2x4x512.Idx) = V m c main_v12 (ix3 p q (⟨512 * (t.val % 11) + k.val, h⟩ : Fin 5632)) := by blk_ext [iblk, idx t]
  exact h
/-- Window 6's block, the down projection, element by element in its array. -/
theorem b6_at (c : Dev nD) (t : Fin cfg0.N) (k : Fin 512) (e : Fin 2048) (h : 512 * (t.val % 11) + k.val < 5632) :
    b6 m c t (ix2 k e) = (V m c main_v8 : FVec Ideal S5632x2048 .bf16) (ix2 (⟨512 * (t.val % 11) + k.val, h⟩ : Fin 5632) e) := by
  have h : b6 m c t (ix2 k e : S512x2048.Idx) = V m c main_v8 (ix2 (⟨512 * (t.val % 11) + k.val, h⟩ : Fin 5632) e) := by blk_ext [iblk, idx t]
  exact h

end Cert.Ffn

end
-- ==== Proof.FfnOut.lean ====
/-
  What each kind of grid point of the feed-forward kernel leaves in the output's block.
-/
module

public import proofs.«01_k».proof.Proof.FfnPay
public import proofs.«01_k».proof.Proof.FfnTables

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

set_option maxHeartbeats 1600000 in
/-- The first point of a tile leaves the two halves' sum. -/
theorem outA_at (c : Dev nD) (t : Fin cfg0.N) (h : t.val % 11 = 0) (r : Fin 1024) (e : Fin 2048) :
    out0_A_7 m c t h (ix2 r e) = part (sout0_A_0 m c t h) (iblk m c 4 t) (iblk m c 5 t) (iblk m c 6 t) 0 r e
      + part (sout0_A_0 m c t h) (iblk m c 4 t) (iblk m c 5 t) (iblk m c 6 t) 1 r e := by
  have hH : out0_A_7 m c t h = k0_pay5 (gateT (sout0_A_0 m c t h) (iblk m c 4 t) (iblk m c 5 t)) (v68T (sout0_A_0 m c t h) (iblk m c 4 t) (iblk m c 5 t))
      (v70T (iblk m c 5 t)) (v71T (sout0_A_0 m c t h) (iblk m c 4 t)) (w1T (iblk m c 6 t))
      (k0_pay4 (gateT (sout0_A_0 m c t h) (iblk m c 4 t) (iblk m c 5 t)) (v68T (sout0_A_0 m c t h) (iblk m c 4 t) (iblk m c 5 t))
      (v70T (iblk m c 5 t)) (v71T (sout0_A_0 m c t h) (iblk m c 4 t)) (w0T (iblk m c 6 t))) := by
    unfold sout0_A_0
    frame_open
    frame_out
    simp only [read_unread_whole]
    rfl
  rw [hH, part1_at, part0_at]

set_option maxHeartbeats 1600000 in
/-- A middle point adds its two halves. -/
theorem outB_at (c : Dev nD) (t : Fin cfg0.N) (h : t.val % 11 ≠ 0 ∧ t.val % 11 ≠ 10) (p : Vec Ideal S1024x2048 .f32 × Vec Ideal S1040x2048 .bf16)
    (r : Fin 1024) (e : Fin 2048) :
    out0_B_7 m c t h p (ix2 r e) = p.1 (ix2 r e) + part p.2 (iblk m c 4 t) (iblk m c 5 t) (iblk m c 6 t) 0 r e
      + part p.2 (iblk m c 4 t) (iblk m c 5 t) (iblk m c 6 t) 1 r e := by
  have hH : out0_B_7 m c t h p = k0_pay5 (gateT p.2 (iblk m c 4 t) (iblk m c 5 t)) (v68T p.2 (iblk m c 4 t) (iblk m c 5 t))
      (v70T (iblk m c 5 t)) (v71T p.2 (iblk m c 4 t)) (w1T (iblk m c 6 t))
      (k0_pay7 (gateT p.2 (iblk m c 4 t) (iblk m c 5 t)) (v68T p.2 (iblk m c 4 t) (iblk m c 5 t))
      (v70T (iblk m c 5 t)) (v71T p.2 (iblk m c 4 t)) (w0T (iblk m c 6 t)) p.1) := by
    frame_open
    frame_out
    simp only [read_unread_whole]
    rfl
  rw [hH, part1_at, pay7_at, part0_at]

set_option maxHeartbeats 1600000 in
/-- The last point adds its two halves, scales by the gate and adds the residual. -/
theorem outC_at (c : Dev nD) (t : Fin cfg0.N) (h : t.val % 11 = 10) (p : Vec Ideal S1024x2048 .f32 × Vec Ideal S1040x2048 .bf16)
    (r : Fin 1024) (e : Fin 2048) :
    out0_C_7 m c t h p (ix2 r e) = b0 m c t (ix2 r e) + b2 m c t (ix3 (0 : Fin 1) (5 : Fin 6) e) * (p.1 (ix2 r e) + part p.2 (iblk m c 4 t) (iblk m c 5 t) (iblk m c 6 t) 0 r e
      + part p.2 (iblk m c 4 t) (iblk m c 5 t) (iblk m c 6 t) 1 r e) := by
  have hH : out0_C_7 m c t h p = k0_pay9 (k0_pay39 (iblk m c 0 t)) (k0_pay5 (gateT p.2 (iblk m c 4 t) (iblk m c 5 t)) (v68T p.2 (iblk m c 4 t) (iblk m c 5 t))
      (v70T (iblk m c 5 t)) (v71T p.2 (iblk m c 4 t)) (w1T (iblk m c 6 t))
      (k0_pay7 (gateT p.2 (iblk m c 4 t) (iblk m c 5 t)) (v68T p.2 (iblk m c 4 t) (iblk m c 5 t))
      (v70T (iblk m c 5 t)) (v71T p.2 (iblk m c 4 t)) (w0T (iblk m c 6 t)) p.1))
      (k0_pay41 (View.ld (iblk m c 2 t) (Rect.unit ![0, 5, 0] ![1, 1, 2048] inb_S1x6x2048_S1x1x2048_0_5_0))) := by
    frame_open
    frame_out
    simp only [read_unread_whole]
    rfl
  rw [hH, pay9_at, part1_at, pay7_at, part0_at]
  have hg : View.ld (b2 m c t) (Rect.unit ![0, 5, 0] ![1, 1, 2048] inb_S1x6x2048_S1x1x2048_0_5_0) (ix3 (0 : Fin 1) (0 : Fin 1) e) = b2 m c t (ix3 (0 : Fin 1) (5 : Fin 6) e) :=
    congrArg (b2 m c t) (funext fun a => Fin.ext (by
      fin_cases a
      · rfl
      · rfl
      · show 0 + 1 * e.val = e.val; omega))
  exact congrArg (fun z => b0 m c t (ix2 r e) + z * _) hg

end Cert.Ffn

end
-- ==== Proof.FfnLoop.lean ====
/-
  The rows the feed-forward kernel's loop norms and keeps: sixteen at a time, in order.
-/
module

public import proofs.«01_k».proof.Proof.FfnFrame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

variable {𝒱 : Variants} {c : Dev nD} {bd : Option 𝒱.V} {i : grid0.Coords} {arg2 : Memref sig .tc .vmem S1024x2048 .f32} {harg2 : arg2.IsWhole} {arg3 : Memref sig .tc .vmem S16x2048 .f32} {harg3 : arg3.IsWhole} {arg4 : Memref sig .tc .vmem S1x6x2048 .f32} {harg4 : arg4.IsWhole} {arg5 : Memref sig .tc .vmem S1x2048 .f32} {harg5 : arg5.IsWhole} {arg6 : Memref sig .tc .vmem S1x2048x1024 .bf16} {harg6 : arg6.IsWhole} {arg7 : Memref sig .tc .vmem S2x4x512 .f32} {harg7 : arg7.IsWhole} {arg8 : Memref sig .tc .vmem S512x2048 .bf16} {harg8 : arg8.IsWhole} {arg9 : Memref sig .tc .vmem S1024x2048 .f32} {harg9 : arg9.IsWhole} {arg10 : Memref sig .tc .vmem S1040x2048 .bf16} {harg10 : arg10.IsWhole} {arg11 : Memref sig .tc .vmem S2x1040x512 .f32} {harg11 : arg11.IsWhole} {k0_h1 : k0_cond1 i = 1#1} {v15 : FVec Ideal S1x2048 .f32} {v21 : FVec Ideal S1x2048 .f32} {X_arg2 : BufTy.Contents (Elt Ideal) arg2.view.ty}

/-- The loop takes 64 trips. -/
theorem trips : k0_t1_loop.trips = 64 := by decide +kernel

/-- A trip below 64. -/
theorem lt_trips {n : ℕ} (h : n < 64) : n < k0_t1_loop.trips := by rw [trips]; exact h

/-- Trip `k` reads rows `16 k` on. -/
theorem off1 : ∀ k : Fin k0_t1_loop.trips, k0_off1 k = ![16 * k.val, 0] := by decide +kernel

/-- Trip `k` keeps them at rows `16 + 16 k` on. -/
theorem off2 : ∀ k : Fin k0_t1_loop.trips, k0_off2 k = ![16 + 16 * k.val, 0] := by decide +kernel

/-- What one trip stores. -/
theorem trip_eq (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 k0_h1 v15 v21 X_arg2 k
      = [⟨Rect.unit (s := S1040x2048) (k0_off2 k) S16x2048.size (k0_off2_inb i k k0_h1),
          k0_pay2 v15 v21 (arg2.view.readAt (Elt Ideal) (Rect.unit (s := S1024x2048) (k0_off1 k) S16x2048.size (k0_off1_inb i k k0_h1)).toLoadRect X_arg2)⟩] := by
  unfold tripL_k0_t1 trip_k0_t1
  rfl

/-- A row of trip `k` after `n` trips. -/
theorem pb_hi (T : List (View.Piece (Elt Ideal) S1040x2048 .bf16)) (n : ℕ) (hn : n ≤ 64) (k : ℕ) (hk : k < n) (r : Fin 16) (d : Fin 2048) :
    View.canon (pb_k0_t1 (F := Ideal) 𝒱 c bd i arg2 harg2 arg3 harg3 arg4 harg4 arg5 harg5 arg6 harg6 arg7 harg7 arg8 harg8 arg9 harg9 arg10 harg10 arg11 harg11 k0_h1 v15 v21 X_arg2 n ++ T) (ix2 (⟨16 + 16 * k + r.val, by omega⟩ : Fin 1040) d)
      = k0_pay2 v15 v21 (arg2.view.readAt (Elt Ideal) (Rect.unit (s := S1024x2048) (k0_off1 ⟨k, lt_trips (by omega)⟩) S16x2048.size (k0_off1_inb i ⟨k, lt_trips (by omega)⟩ k0_h1)).toLoadRect X_arg2) (ix2 r d) := by
  induction n with
  | zero => omega
  | succ n ih =>
    have hs := pb_k0_t1_succ (F := Ideal) 𝒱 c bd i arg2 harg2 arg3 harg3 arg4 harg4 arg5 harg5 arg6 harg6 arg7 harg7 arg8 harg8 arg9 harg9 arg10 harg10 arg11 harg11 k0_h1 v15 v21 X_arg2 ⟨n, lt_trips (by omega)⟩
    dsimp only at hs
    rw [hs, trip_eq, List.append_assoc, List.singleton_append]
    by_cases hkn : k = n
    · subst hkn
      have he : (ix2 (⟨16 + 16 * k + r.val, by omega⟩ : Fin 1040) d : S1040x2048.Idx) = (Rect.unit (s := S1040x2048) (k0_off2 ⟨k, lt_trips (by omega)⟩) S16x2048.size (k0_off2_inb i ⟨k, lt_trips (by omega)⟩ k0_h1)).emb (ix2 r d : S16x2048.Idx) := by
        have ho := off2 ⟨k, lt_trips (by omega)⟩
        have h0 := congrFun ho 0
        have h1 := congrFun ho 1
        simp at h0 h1
        funext a
        refine Fin.ext ?_
        fin_cases a
        · show 16 + 16 * k + r.val = k0_off2 ⟨k, lt_trips (by omega)⟩ 0 + 1 * r.val
          omega
        · show d.val = k0_off2 ⟨k, lt_trips (by omega)⟩ 1 + 1 * d.val
          omega
      rw [he]
      exact View.canon_cons_emb _ _ _ _
    · rw [View.canon_cons_of_not_mem]
      · exact ih (by omega) (by omega)
      · intro hm
        have h0 : k0_off2 ⟨n, lt_trips (by omega)⟩ 0 ≤ 16 + 16 * k + r.val ∧ 16 + 16 * k + r.val < k0_off2 ⟨n, lt_trips (by omega)⟩ 0 + 16 := (Rect.mem_set_unit (s := S1040x2048) (inb := k0_off2_inb i ⟨n, lt_trips (by omega)⟩ k0_h1)).mp hm 0
        have ho := congrFun (off2 ⟨n, lt_trips (by omega)⟩) 0
        simp at ho
        omega

/-- Rows below the loop's. -/
theorem pb_lo (T : List (View.Piece (Elt Ideal) S1040x2048 .bf16)) (n : ℕ) (hn : n ≤ 64) (q : Fin 1040) (hq : q.val < 16) (d : Fin 2048) :
    View.canon (pb_k0_t1 (F := Ideal) 𝒱 c bd i arg2 harg2 arg3 harg3 arg4 harg4 arg5 harg5 arg6 harg6 arg7 harg7 arg8 harg8 arg9 harg9 arg10 harg10 arg11 harg11 k0_h1 v15 v21 X_arg2 n ++ T) (ix2 q d) = View.canon T (ix2 q d) := by
  induction n with
  | zero => rfl
  | succ n ih =>
    have hs := pb_k0_t1_succ (F := Ideal) 𝒱 c bd i arg2 harg2 arg3 harg3 arg4 harg4 arg5 harg5 arg6 harg6 arg7 harg7 arg8 harg8 arg9 harg9 arg10 harg10 arg11 harg11 k0_h1 v15 v21 X_arg2 ⟨n, lt_trips (by omega)⟩
    dsimp only at hs
    rw [hs, trip_eq, List.append_assoc, List.singleton_append]
    rw [View.canon_cons_of_not_mem]
    · exact ih (by omega)
    · intro hm
      have h0 : k0_off2 ⟨n, lt_trips (by omega)⟩ 0 ≤ q.val ∧ q.val < k0_off2 ⟨n, lt_trips (by omega)⟩ 0 + 16 := (Rect.mem_set_unit (s := S1040x2048) (inb := k0_off2_inb i ⟨n, lt_trips (by omega)⟩ k0_h1)).mp hm 0
      have ho := congrFun (off2 ⟨n, lt_trips (by omega)⟩) 0
      simp at ho
      omega

/-- One kept row of the loop. -/
theorem pay2_at (a b : FVec Ideal S1x2048 .f32) (X : FVec Ideal S16x2048 .f32) (r : Fin 16) (d : Fin 2048) :
    (k0_pay2 a b X (ix2 r d) : EReal) = X (ix2 r d) * Ideal.rsqrt (Ideal.div (∑ x : Fin 2048, X (ix2 r x) * X (ix2 r x)) (Ideal.ofBits .f32 0x45000000#32) + Ideal.ofBits .f32 0x358637BD#32)
      * b (ix2 (0 : Fin 1) d) + a (ix2 (0 : Fin 1) d) := by
  pointwise [k0_pay2]

/-- One kept row of the halo. -/
theorem pay1_at (i : Fin 8) (a : FVec Ideal S1x1x2048 .f32) (g : FVec Ideal S1x2048 .f32) (b : FVec Ideal S1x1x2048 .f32) (X : FVec Ideal S16x2048 .f32) (r : Fin 16) (d : Fin 2048) :
    (k0_pay1 (F := Ideal) (k0_pay12 (F := Ideal) (BitVec.ofNat 32 i.val) a g b X) (ix2 r d) : EReal) = if i.val % 2 = 0 then 0 else
      X (ix2 r d) * Ideal.rsqrt (Ideal.div (∑ x : Fin 2048, X (ix2 r x) * X (ix2 r x)) (Ideal.ofBits .f32 0x45000000#32) + Ideal.ofBits .f32 0x358637BD#32)
      * (g (ix2 (0 : Fin 1) d) * (1 + b (ix3 (0 : Fin 1) (0 : Fin 1) d))) + a (ix3 (0 : Fin 1) (0 : Fin 1) d) := by
  fin_cases i <;> pointwise [k0_pay1, k0_pay12, k0_pay11, k0_pay10] <;> rfl

/-- The scale, a row. -/
theorem pay11_at (g : FVec Ideal S1x2048 .f32) (b : FVec Ideal S1x1x2048 .f32) (d : Fin 2048) :
    k0_pay11 g b (ix2 (0 : Fin 1) d) = g (ix2 (0 : Fin 1) d) * (1 + b (ix3 (0 : Fin 1) (0 : Fin 1) d)) := by
  pointwise [k0_pay11]

/-- The shift, a row. -/
theorem pay10_at (a : FVec Ideal S1x1x2048 .f32) (d : Fin 2048) :
    k0_pay10 a (ix2 (0 : Fin 1) d) = a (ix3 (0 : Fin 1) (0 : Fin 1) d) := by
  pointwise [k0_pay10]

end Cert.Ffn

end
-- ==== Proof.FfnSpec.lean ====
/-
  What the feed-forward block computes, in the reference's terms: the normed and modulated rows, two zero rows in front of
  each sequence, the causal convolution over three of them, the gated product, the down projection and the residual.
-/
module

public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Gen.Reference2Ideal

@[expose] public section

set_option maxRecDepth 16384

noncomputable section

namespace Cert.Ffn

open Idealize.ShloMosaic Idealize.ShloMosaic.TcCoe Idealize.SL.Sem
open Idealize.ShloMosaic.Pipeline (Dat)
open Cert.Reference2Ideal Cert.Reference2Ideal.Gen

variable (x0 : FVec Ideal S4x2048x2048 .f32) (x1 : FVec Ideal S4x12288 .f32) (x2 : FVec Ideal S1x2048 .f32) (x3 : FVec Ideal S1x2048x11264 .f32)
  (x4 : FVec Ideal S1x3x11264 .f32) (x5 : FVec Ideal S1x11264 .f32) (x6 : FVec Ideal S1x5632x2048 .f32)

/-- Token `s` of sequence `b`, normed and modulated, at column `d`. -/
def hr (b : Fin 4) (s d : Fin 2048) : EReal :=
  x0 (ix3 b s d) * Ideal.rsqrt (Ideal.div (∑ x : Fin 2048, x0 (ix3 b s x) * x0 (ix3 b s x)) (Ideal.ofBits .f32 0x45000000#32) + Ideal.ofBits .f32 0x358637BD#32)
    * (x2 (ix2 (0 : Fin 1) d) * (1 + x1 (ix2 b (⟨8192 + d.val, by omega⟩ : Fin 12288)))) + x1 (ix2 b (⟨6144 + d.val, by omega⟩ : Fin 12288))

/-- The same rows with two rows of zeros in front of each sequence. -/
def hpad (b : Fin 4) (s : Fin 2050) (d : Fin 2048) : EReal := if h : 2 ≤ s.val then hr x0 x1 x2 b ⟨s.val - 2, by omega⟩ d else 0

/-- The up projection of such a row to column `c`. -/
def upS (b : Fin 4) (s : Fin 2050) (c : Fin 11264) : EReal := ∑ d : Fin 2048, hpad x0 x1 x2 b s d * x3 (ix3 (0 : Fin 1) d c)

/-- The causal convolution at token `s`. -/
def convS (b : Fin 4) (s : Fin 2048) (c : Fin 11264) : EReal :=
  x5 (ix2 (0 : Fin 1) c) + x4 (ix3 (0 : Fin 1) (0 : Fin 3) c) * upS x0 x1 x2 x3 b ⟨s.val, by omega⟩ c
    + x4 (ix3 (0 : Fin 1) (1 : Fin 3) c) * upS x0 x1 x2 x3 b ⟨s.val + 1, by omega⟩ c
    + x4 (ix3 (0 : Fin 1) (2 : Fin 3) c) * upS x0 x1 x2 x3 b ⟨s.val + 2, by omega⟩ c

/-- The silu as the reference writes it. -/
def siluS (v : EReal) : EReal := v * Ideal.div 1 (1 + Ideal.exp (-v))

/-- The gated product. -/
def actS (b : Fin 4) (s : Fin 2048) (k : Fin 5632) : EReal :=
  siluS (convS x0 x1 x2 x3 x4 x5 b s ⟨5632 + k.val, by omega⟩) * convS x0 x1 x2 x3 x4 x5 b s ⟨k.val, by omega⟩

/-- The block's result. -/
def outS (n : Fin 8192) (e : Fin 2048) : EReal :=
  x0 (ix3 (⟨n.val / 2048, by omega⟩ : Fin 4) (⟨n.val % 2048, by omega⟩ : Fin 2048) e)
    + x1 (ix2 (⟨n.val / 2048, by omega⟩ : Fin 4) (⟨10240 + e.val, by omega⟩ : Fin 12288))
      * ∑ k : Fin 5632, actS x0 x1 x2 x3 x4 x5 ⟨n.val / 2048, by omega⟩ ⟨n.val % 2048, by omega⟩ k * x6 (ix3 (0 : Fin 1) k e)

end Cert.Ffn

end
-- ==== Proof.FfnRows.lean ====
/-
  The rows the feed-forward kernel keeps for a tile, in the reference's terms.
-/
module

public import proofs.«01_k».proof.Proof.FfnLoop
public import proofs.«01_k».proof.Proof.FfnTables
public import proofs.«01_k».proof.Proof.FfnSpec

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- A row normed by its root mean square, scaled and shifted. -/
def nrm (X : Fin 2048 → EReal) (g b a : EReal) (d : Fin 2048) : EReal :=
  X d * Ideal.rsqrt (Ideal.div (∑ x : Fin 2048, X x * X x) (Ideal.ofBits .f32 0x45000000#32) + Ideal.ofBits .f32 0x358637BD#32) * (g * (1 + b)) + a

/-- The shift's row of the modulation block. -/
theorem ld3 (x2 : Vec Ideal S1x6x2048 .f32) (d : Fin 2048) :
    (View.ld x2 (Rect.unit ![0, 3, 0] ![1, 1, 2048] inb_S1x6x2048_S1x1x2048_0_3_0)) (ix3 (0 : Fin 1) (0 : Fin 1) d) = x2 (ix3 (0 : Fin 1) (3 : Fin 6) d) :=
  congrArg x2 (funext fun a => Fin.ext (by fin_cases a <;> first | rfl | (show 0 + 1 * d.val = d.val; omega)))

/-- The scale's row of the modulation block. -/
theorem ld4 (x2 : Vec Ideal S1x6x2048 .f32) (d : Fin 2048) :
    (View.ld x2 (Rect.unit ![0, 4, 0] ![1, 1, 2048] inb_S1x6x2048_S1x1x2048_0_4_0)) (ix3 (0 : Fin 1) (0 : Fin 1) d) = x2 (ix3 (0 : Fin 1) (4 : Fin 6) d) :=
  congrArg x2 (funext fun a => Fin.ext (by fin_cases a <;> first | rfl | (show 0 + 1 * d.val = d.val; omega)))

/-- Sixteen rows of the tile. -/
theorem ld0 (x : Vec Ideal S1024x2048 .f32) (k : ℕ) (hk : k < 64) (inb) (r : Fin 16) (d : Fin 2048) :
    (View.ld x (Rect.unit (s := S1024x2048) (k0_off1 ⟨k, lt_trips hk⟩) S16x2048.size inb)) (ix2 r d) = x (ix2 (⟨16 * k + r.val, by omega⟩ : Fin 1024) d) := by
  have h0 : k0_off1 ⟨k, lt_trips hk⟩ 0 = 16 * k := congrFun (off1 ⟨k, lt_trips hk⟩) 0
  have h1 : k0_off1 ⟨k, lt_trips hk⟩ 1 = 0 := congrFun (off1 ⟨k, lt_trips hk⟩) 1
  refine congrArg x (funext fun a => Fin.ext ?_)
  fin_cases a
  · show k0_off1 ⟨k, lt_trips hk⟩ 0 + 1 * r.val = 16 * k + r.val
    omega
  · show k0_off1 ⟨k, lt_trips hk⟩ 1 + 1 * d.val = d.val
    omega

/-- One kept row of the loop, by its source row. -/
theorem pay2_nrm (a b : FVec Ideal S1x2048 .f32) (X : FVec Ideal S16x2048 .f32) (r : Fin 16) (d : Fin 2048) (Y : Fin 2048 → EReal) (hY : ∀ x, (X (ix2 r x) : EReal) = Y x) :
    (k0_pay2 a b X (ix2 r d) : EReal) = Y d * Ideal.rsqrt (Ideal.div (∑ x : Fin 2048, Y x * Y x) (Ideal.ofBits .f32 0x45000000#32) + Ideal.ofBits .f32 0x358637BD#32)
      * b (ix2 (0 : Fin 1) d) + a (ix2 (0 : Fin 1) d) := by
  obtain rfl : (fun x => (X (ix2 r x) : EReal)) = Y := funext hY
  exact pay2_at a b X r d

/-- The kept row `16 + r` is the tile's row `r`, normed. -/
theorem rows_hi (c : Dev nD) (t : Fin cfg0.N) (h : t.val % 11 = 0) (k : ℕ) (hk : k < 64) (r : Fin 16) (d : Fin 2048) :
    (sout0_A_0 m c t h (ix2 (⟨16 + 16 * k + r.val, by omega⟩ : Fin 1040) d) : EReal)
      = nrm (fun x => b0 m c t (ix2 (⟨16 * k + r.val, by omega⟩ : Fin 1024) x)) (b3 m c t (ix2 (0 : Fin 1) d)) (b2 m c t (ix3 (0 : Fin 1) (4 : Fin 6) d)) (b2 m c t (ix3 (0 : Fin 1) (3 : Fin 6) d)) d := by
  unfold sout0_A_0
  unfold kernelRun0_A
  dsimp only
  frame_out
  refine (pb_hi _ _ ?_ k ?_ r d).trans ?_
  · decide +kernel
  · exact lt_of_lt_of_eq hk (by decide +kernel)
  refine (pay2_nrm _ _ _ r d (fun x => b0 m c t (ix2 (⟨16 * k + r.val, by omega⟩ : Fin 1024) x)) (fun x => ?_)).trans ?_
  · rw [View.readAt_eq_ld, Memref.IsWhole.read_unread]
    exact ld0 _ k hk _ r x
  rw [pay11_at, pay10_at, ld3, ld4]
  rfl

/-- The kept rows below are the halo's, normed, or zeros in front of a sequence. -/
theorem rows_lo (c : Dev nD) (t : Fin cfg0.N) (h : t.val % 11 = 0) (q : Fin 16) (d : Fin 2048) :
    (sout0_A_0 m c t h (ix2 (⟨q.val, by omega⟩ : Fin 1040) d) : EReal)
      = if t.val / 11 % 2 = 0 then 0 else
        nrm (fun x => b1 m c t (ix2 q x)) (b3 m c t (ix2 (0 : Fin 1) d)) (b2 m c t (ix3 (0 : Fin 1) (4 : Fin 6) d)) (b2 m c t (ix3 (0 : Fin 1) (3 : Fin 6) d)) d := by
  unfold sout0_A_0
  unfold kernelRun0_A
  dsimp only
  frame_out
  refine (pb_lo _ _ ?_ (⟨q.val, by omega⟩ : Fin 1040) q.isLt d).trans ?_
  · decide +kernel
  have he : (ix2 (⟨q.val, by omega⟩ : Fin 1040) d : S1040x2048.Idx) = (Rect.unit (s := S1040x2048) ![0, 0] ![16, 2048] inb_S1040x2048_S16x2048_0_0).emb (ix2 q d : S16x2048.Idx) :=
    funext fun a => Fin.ext (by fin_cases a <;> first | (show q.val = 0 + 1 * q.val; omega) | (show d.val = 0 + 1 * d.val; omega))
  rw [he]
  refine (View.canon_cons_emb _ _ _ _).trans ?_
  have hp := pay1_at (grid0.coords t 0) (View.ld (b2 m c t) (Rect.unit ![0, 3, 0] ![1, 1, 2048] inb_S1x6x2048_S1x1x2048_0_3_0)) (b3 m c t)
    (View.ld (b2 m c t) (Rect.unit ![0, 4, 0] ![1, 1, 2048] inb_S1x6x2048_S1x1x2048_0_4_0)) (b1 m c t) q d
  rw [ld3, ld4] at hp
  rw [← coord t]
  exact hp

/-- The tokens. -/
abbrev X0 (c : Dev nD) : FVec Ideal S4x2048x2048 .f32 := m ((c : Thread nD τ).loc main_arg0)

/-- The modulation. -/
abbrev X1 (c : Dev nD) : FVec Ideal S4x12288 .f32 := m ((c : Thread nD τ).loc main_arg1)

/-- The norm's weights. -/
abbrev X2 (c : Dev nD) : FVec Ideal S1x2048 .f32 := m ((c : Thread nD τ).loc main_arg2)

/-- The up projection. -/
abbrev X3 (c : Dev nD) : FVec Ideal S1x2048x11264 .f32 := m ((c : Thread nD τ).loc main_arg3)

/-- The taps. -/
abbrev X4 (c : Dev nD) : FVec Ideal S1x3x11264 .f32 := m ((c : Thread nD τ).loc main_arg4)

/-- The convolution's bias. -/
abbrev X5 (c : Dev nD) : FVec Ideal S1x11264 .f32 := m ((c : Thread nD τ).loc main_arg5)

/-- The down projection. -/
abbrev X6 (c : Dev nD) : FVec Ideal S1x5632x2048 .f32 := m ((c : Thread nD τ).loc main_arg6)

/-- A normed row is one of the reference's. -/
theorem nrm_eq (c : Dev nD) (t : Fin cfg0.N) (X : Fin 2048 → EReal) (b : Fin 4) (s d : Fin 2048) (hb : b.val = t.val / 11 / 2)
    (hX : ∀ x, X x = X0 m c (ix3 b s x)) :
    nrm X (b3 m c t (ix2 (0 : Fin 1) d)) (b2 m c t (ix3 (0 : Fin 1) (4 : Fin 6) d)) (b2 m c t (ix3 (0 : Fin 1) (3 : Fin 6) d)) d = hr (X0 m c) (X1 m c) (X2 m c) b s d := by
  have h4 : t.val / 11 / 2 < 4 := by have := t_lt t; omega
  obtain rfl : b = ⟨t.val / 11 / 2, h4⟩ := Fin.ext hb
  obtain rfl : X = fun x => X0 m c (ix3 _ s x) := funext hX
  rw [b3_at, b2_at m c t 4 d (by have := t_lt t; omega), b2_at m c t 3 d (by have := t_lt t; omega), V_1, V_1]
  rfl

/-- The kept rows the convolution reads are the reference's rows, padded. -/
theorem rows_at (c : Dev nD) (t : Fin cfg0.N) (h : t.val % 11 = 0) (q : Fin 1040) (hq : 14 ≤ q.val) (d : Fin 2048) :
    (sout0_A_0 m c t h (ix2 q d) : EReal) = hpad (X0 m c) (X1 m c) (X2 m c) (⟨t.val / 11 / 2, by have := t_lt t; omega⟩ : Fin 4)
      (⟨1024 * (t.val / 11 % 2) + q.val - 14, by have := t_lt t; omega⟩ : Fin 2050) d := by
  have ht := t_lt t
  unfold hpad
  by_cases h16 : q.val < 16
  · have hl := rows_lo m c t h (⟨q.val, h16⟩ : Fin 16) d
    refine hl.trans ?_
    by_cases hi : t.val / 11 % 2 = 0
    · rw [if_pos hi, dif_neg (by dsimp only; omega)]
    · rw [if_neg hi, dif_pos (by dsimp only; omega)]
      refine nrm_eq m c t _ _ _ d rfl fun x => ?_
      rw [b1_at m c t _ _ (by dsimp only; omega), V_0]
      refine congrArg (X0 m c) ?_
      refine congrArg₂ (fun a b => ix3 a b x) (Fin.ext ?_) (Fin.ext ?_)
      · show (16 * (t.val / 11 * 64 - 1) + q.val) / 2048 = t.val / 11 / 2
        omega
      · show (16 * (t.val / 11 * 64 - 1) + q.val) % 2048 = 1024 * (t.val / 11 % 2) + q.val - 14 - 2
        omega
  · have hl := rows_hi m c t h ((q.val - 16) / 16) (by omega) (⟨(q.val - 16) % 16, by omega⟩ : Fin 16) d
    have hqe : (⟨16 + 16 * ((q.val - 16) / 16) + (q.val - 16) % 16, by omega⟩ : Fin 1040) = q := Fin.ext (by dsimp only; omega)
    dsimp only at hl
    rw [hqe] at hl
    refine hl.trans ?_
    rw [dif_pos (by dsimp only; omega)]
    refine nrm_eq m c t _ _ _ d rfl fun x => ?_
    rw [b0_at m c t _ _ (by dsimp only; omega), V_0]
    refine congrArg (X0 m c) ?_
    refine congrArg₂ (fun a b => ix3 a b x) (Fin.ext ?_) (Fin.ext ?_)
    · show (1024 * (t.val / 11) + (16 * ((q.val - 16) / 16) + (q.val - 16) % 16)) / 2048 = t.val / 11 / 2
      omega
    · show (1024 * (t.val / 11) + (16 * ((q.val - 16) / 16) + (q.val - 16) % 16)) % 2048 = 1024 * (t.val / 11 % 2) + q.val - 14 - 2
      omega

end Cert.Ffn

end
-- ==== Proof.FfnRef.lean ====
/-
  The reference of the feed-forward block, read element by element.
-/
module

public import proofs.«01_k».proof.Proof.FfnSpec
public import proofs.«01_k».proof.Proof.Gen.Reference2Ideal.Read
public import proofs.«01_k».proof.Proof.Scalars
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Ffn

open Idealize.ShloMosaic Idealize.ShloMosaic.TcCoe Idealize.SL.Sem
open Idealize.ShloMosaic.Pipeline (Dat)
open Cert.Reference2Ideal Cert.Reference2Ideal.Gen Cert.Reference2Ideal.Read

variable (x0 : FVec Ideal S4x2048x2048 .f32) (x1 : FVec Ideal S4x12288 .f32) (x2 : FVec Ideal S1x2048 .f32) (x3 : FVec Ideal S1x2048x11264 .f32)
  (x4 : FVec Ideal S1x3x11264 .f32) (x5 : FVec Ideal S1x11264 .f32) (x6 : FVec Ideal S1x5632x2048 .f32)

set_option maxHeartbeats 2000000 in
/-- The normed and modulated rows. -/
theorem v27_at (b : Fin 4) (s d : Fin 2048) : val_main_v27 (F := Ideal) x0 x1 x2 (ix3 b s d) = hr x0 x1 x2 b s d := by
  have h : val_main_v27 (F := Ideal) x0 x1 x2 (ix3 b s d) = x0 (ix3 b s d) * Ideal.rsqrt (Ideal.div (∑ x : Fin 2048, x0 (ix3 b s x) * x0 (ix3 b s x)) (Ideal.ofBits .f32 0x45000000#32) + Ideal.ofBits .f32 0x358637BD#32)
    * x2 (ix2 (0 : Fin 1) d) * (1 + x1 (ix2 b (⟨8192 + d.val, by omega⟩ : Fin 12288))) + x1 (ix2 b (⟨6144 + d.val, by omega⟩ : Fin 12288)) := by
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst, val_main_cst_0, val_main_cst_1, val_main_cst_2]
  rw [h, mul_assoc (x0 _ * _)]
  rfl

/-- Their up projection. -/
theorem dot_at (Y : FVec Ideal S4x2048x2048 .f32) (b : Fin 4) (s : Fin 2048) (c : Fin 11264) :
    (Host.dotGeneral (F := Ideal) (φ₂ := .f32) dot_S4x2048x2048_S2048x11264_S4x2048x11264_2_0_01_1_n_n none Y (val_main_v28 (F := Ideal) x3) : FVec Ideal S4x2048x11264 .f32) (ix3 b s c)
      = ∑ d : Fin 2048, Y (ix3 b s d) * x3 (ix3 (0 : Fin 1) d c) := by
  pointwise [val_main_v28]

/-- The value in front of each sequence is zero. -/
theorem zero_at (i : S_.Idx) : val_main_call0_v0 (F := Ideal) i = (0 : EReal) := by
  pointwise [val_main_call0_v0, val_main_c]
  show (((0#32 : BitVec 32).toInt : ℝ) : EReal) = 0
  simp

/-- Two rows in front. -/
theorem pad_at (Y : FVec Ideal S4x2048x11264 .f32) (z : FVec Ideal S_ .f32) (b : Fin 4) (s : Fin 2050) (c : Fin 11264) :
    pad S4x2050x11264 ![0, 2, 0] ![0, 0, 0] ![0, 0, 0] Y z pads_S4x2048x11264_S4x2050x11264_000_200_000 h_S_ (ix3 b s c)
      = if h : 2 ≤ s.val ∧ s.val - 2 < 2048 then Y (ix3 b (⟨s.val - 2, h.2⟩ : Fin 2048) c) else z (Shape.Idx.first h_S_) := by
  pointwise []

/-- The padded up projection. -/
theorem v32_at (b : Fin 4) (s : Fin 2050) (c : Fin 11264) : val_main_v32 (F := Ideal) x0 x1 x2 x3 (ix3 b s c) = upS x0 x1 x2 x3 b s c := by
  unfold val_main_v32 val_main_v29
  rw [pad_at, zero_at]
  unfold upS hpad
  by_cases h : 2 ≤ s.val
  · rw [dif_pos ⟨h, by omega⟩, dot_at]
    refine Finset.sum_congr rfl fun d _ => ?_
    rw [dif_pos h, v27_at]
  · rw [dif_neg (fun q => h q.1)]
    refine (Finset.sum_eq_zero fun d _ => ?_).symm
    rw [dif_neg h, zero_mul]

/-- The three taps and the bias. -/
theorem taps_at (U : FVec Ideal S4x2050x11264 .f32) (b : Fin 4) (s : Fin 2048) (c : Fin 11264) :
    addf (addf (addf (mulf (extractStridedSlice S4x2048x11264 ![0, 0, 0] U slices_S4x2050x11264_S4x2048x11264_0_0_0) (val_main_v37 (F := Ideal) x4))
      (mulf (extractStridedSlice S4x2048x11264 ![0, 1, 0] U slices_S4x2050x11264_S4x2048x11264_0_1_0) (val_main_v43 (F := Ideal) x4)))
      (mulf (extractStridedSlice S4x2048x11264 ![0, 2, 0] U slices_S4x2050x11264_S4x2048x11264_0_2_0) (val_main_v50 (F := Ideal) x4))) (val_main_v54 (F := Ideal) x5) (ix3 b s c)
      = U (ix3 b (⟨s.val, by omega⟩ : Fin 2050) c) * x4 (ix3 (0 : Fin 1) (0 : Fin 3) c)
        + U (ix3 b (⟨1 + s.val, by omega⟩ : Fin 2050) c) * x4 (ix3 (0 : Fin 1) (1 : Fin 3) c)
        + U (ix3 b (⟨2 + s.val, by omega⟩ : Fin 2050) c) * x4 (ix3 (0 : Fin 1) (2 : Fin 3) c) + x5 (ix2 (0 : Fin 1) c) := by
  pointwise [val_main_v30, val_main_v31, val_main_v34, val_main_v35, val_main_v36, val_main_v37, val_main_v40, val_main_v41, val_main_v42, val_main_v43, val_main_v47, val_main_v48, val_main_v49, val_main_v50, val_main_v53, val_main_v54]

/-- The convolution. -/
theorem v55_at (b : Fin 4) (s : Fin 2048) (c : Fin 11264) : val_main_v55 (F := Ideal) x0 x1 x2 x3 x4 x5 (ix3 b s c) = convS x0 x1 x2 x3 x4 x5 b s c := by
  refine (taps_at x4 x5 (val_main_v32 (F := Ideal) x0 x1 x2 x3) b s c).trans ?_
  rw [v32_at, v32_at, v32_at]
  unfold convS
  rw [show (⟨1 + s.val, by omega⟩ : Fin 2050) = ⟨s.val + 1, by omega⟩ from Fin.ext (Nat.add_comm _ _),
    show (⟨2 + s.val, by omega⟩ : Fin 2050) = ⟨s.val + 2, by omega⟩ from Fin.ext (Nat.add_comm _ _),
    mul_comm (x4 (ix3 (0 : Fin 1) (0 : Fin 3) c)), mul_comm (x4 (ix3 (0 : Fin 1) (1 : Fin 3) c)), mul_comm (x4 (ix3 (0 : Fin 1) (2 : Fin 3) c)),
    add_comm _ (x5 (ix2 (0 : Fin 1) c)), add_assoc, add_assoc, add_assoc]

/-- The gate's half. -/
theorem v57_at (b : Fin 4) (s : Fin 2048) (k : Fin 5632) :
    val_main_v57 (F := Ideal) x0 x1 x2 x3 x4 x5 (ix3 b s k) = convS x0 x1 x2 x3 x4 x5 b s ⟨5632 + k.val, by omega⟩ := by
  rw [val_main_v57_apply, ← v55_at]
  exact congrArg _ (by blk_ext [])

/-- The value's half. -/
theorem v56_at (b : Fin 4) (s : Fin 2048) (k : Fin 5632) :
    val_main_v56 (F := Ideal) x0 x1 x2 x3 x4 x5 (ix3 b s k) = convS x0 x1 x2 x3 x4 x5 b s ⟨k.val, by omega⟩ := by
  rw [val_main_v56_apply, ← v55_at]
  exact congrArg _ (by blk_ext [])

/-- The silu. -/
theorem silu_at (g : FVec Ideal S4x2048x5632 .f32) (b : Fin 4) (s : Fin 2048) (k : Fin 5632) :
    mulf g (Host.divf (val_main_call1_v4 (F := Ideal)) (addf (val_main_call1_v2 (F := Ideal)) (Host.exp (Host.negf g)))) (ix3 b s k) = siluS (g (ix3 b s k)) := by
  unfold siluS
  pointwise [val_main_call1_v2, val_main_call1_v4, val_main_call1_cst, val_main_call1_cst_0]

/-- The gated product. -/
theorem v60_at (b : Fin 4) (s : Fin 2048) (k : Fin 5632) :
    val_main_v60 (F := Ideal) x0 x1 x2 x3 x4 x5 (ix3 b s k) = actS x0 x1 x2 x3 x4 x5 b s k := by
  have h := silu_at (val_main_v57 (F := Ideal) x0 x1 x2 x3 x4 x5) b s k
  rw [v57_at] at h
  unfold actS
  rw [← h, ← v56_at]
  rfl

/-- The down projection, scaled and added, over rows laid flat. -/
theorem last_at (A : FVec Ideal S4x2048x5632 .f32) (n : Fin 8192) (e : Fin 2048) :
    shapeCast S8192x2048 (addf x0 (mulf (val_main_v63 (F := Ideal) x1) (Host.dotGeneral (F := Ideal) (φ₂ := .f32) dot_S4x2048x5632_S5632x2048_S4x2048x2048_2_0_01_1_n_n none A (val_main_v61 (F := Ideal) x6)))) shapeCasts_S4x2048x2048_S8192x2048 (ix2 n e)
      = x0 (ix3 (⟨n.val / 2048, by omega⟩ : Fin 4) (⟨n.val % 2048, by omega⟩ : Fin 2048) e)
        + x1 (ix2 (⟨n.val / 2048, by omega⟩ : Fin 4) (⟨10240 + e.val, by omega⟩ : Fin 12288))
          * ∑ k : Fin 5632, A (ix3 (⟨n.val / 2048, by omega⟩ : Fin 4) (⟨n.val % 2048, by omega⟩ : Fin 2048) k) * x6 (ix3 (0 : Fin 1) k e) := by
  pointwise [val_main_v63, val_main_v58, val_main_v5, val_main_v61]

/-- THE REFERENCE'S RESULT, at an element. -/
theorem ref_at (n : Fin 8192) (e : Fin 2048) : val_main_v66 (F := Ideal) x0 x1 x2 x3 x4 x5 x6 (ix2 n e) = outS x0 x1 x2 x3 x4 x5 x6 n e := by
  refine (last_at x0 x1 x6 (val_main_v60 (F := Ideal) x0 x1 x2 x3 x4 x5) n e).trans ?_
  unfold outS
  refine congrArg (_ + ·) (congrArg (_ * ·) (Finset.sum_congr rfl fun k _ => ?_))
  rw [v60_at]

end Cert.Ffn

end
-- ==== Proof.FfnValue.lean ====
/-
  What the feed-forward kernel leaves in its result array. The kernel walks the 8192 token rows in 8 tiles of 1024 and, for each, the 5632
  columns of the gated product in 11 blocks of 512, each block in two halves; the first point of a tile also norms and keeps the tile's rows
  and the halo in front of it. Read at an element, the sum over the blocks is the reference's expression.
-/
module

public import proofs.«01_k».proof.Proof.FfnOut
public import proofs.«01_k».proof.Proof.FfnRows
public import proofs.«01_k».proof.Proof.FfnRef

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The rows kept for tile `i` are the reference's padded rows. -/
def Kept (c : Dev nD) (i : Fin 8) (H : Vec Ideal S1040x2048 .bf16) : Prop :=
  ∀ (q : Fin 1040) (hq : 14 ≤ q.val) (d : Fin 2048), (H (ix2 q d) : EReal) = hpad (X0 m c) (X1 m c) (X2 m c) (⟨i.val / 2, by omega⟩ : Fin 4)
    (⟨1024 * (i.val % 2) + q.val - 14, by omega⟩ : Fin 2050) d

/-- One element of the up projection. -/
theorem up_eq (c : Dev nD) (t : Fin cfg0.N) (i : Fin 8) (H : Vec Ideal S1040x2048 .bf16) (hK : Kept m c i H)
    (p : Fin 2) (q : Fin 1040) (hq : 14 ≤ q.val) (k : Fin 512) (s : Fin 2050) (hs : s.val = 1024 * (i.val % 2) + q.val - 14)
    (kk : Fin 11264) (hk : kk.val = 5632 * p.val + (512 * (t.val % 11) + k.val)) :
    up H (b4 m c t) p q k = upS (X0 m c) (X1 m c) (X2 m c) (X3 m c) (⟨i.val / 2, by omega⟩ : Fin 4) s kk := by
  unfold up upS
  refine Finset.sum_congr rfl fun d _ => ?_
  rw [hK q hq d, b4_at]
  refine congrArg₂ (· * ·) (congrArg (fun z => hpad _ _ _ _ z d) (Fin.ext hs.symm)) ?_
  refine (V_6 m c (⟨t.val % 11, Nat.mod_lt _ (by decide)⟩ : Fin 11) d p k).trans ?_
  exact congrArg (X3 m c) (congrArg (ix3 (0 : Fin 1) d) (Fin.ext (by rw [hk]; show 5632 * p.val + 512 * (t.val % 11) + k.val = _; omega)))

/-- One element of the convolution. -/
theorem conv_eq (c : Dev nD) (t : Fin cfg0.N) (i : Fin 8) (H : Vec Ideal S1040x2048 .bf16) (hK : Kept m c i H)
    (p : Fin 2) (r : Fin 1024) (k : Fin 512) (s : Fin 2048) (hs : s.val = 1024 * (i.val % 2) + r.val)
    (kk : Fin 11264) (hk : kk.val = 5632 * p.val + (512 * (t.val % 11) + k.val)) :
    conv H (b4 m c t) (b5 m c t) p r k = convS (X0 m c) (X1 m c) (X2 m c) (X3 m c) (X4 m c) (X5 m c) (⟨i.val / 2, by omega⟩ : Fin 4) s kk := by
  have hj : t.val % 11 < 11 := Nat.mod_lt _ (by decide)
  have hlt : 512 * (t.val % 11) + k.val < 5632 := by omega
  have hp := p.isLt
  have hkk : (⟨5632 * p.val + (512 * (t.val % 11) + k.val), by omega⟩ : Fin 11264) = kk := Fin.ext hk.symm
  have e0 : b5 m c t (ix3 p (0 : Fin 4) k) = X4 m c (ix3 (0 : Fin 1) (0 : Fin 3) kk) := by
    rw [b5_at m c t p 0 k hlt, ← hkk]; exact V_12 m c p 0 ⟨512 * (t.val % 11) + k.val, hlt⟩
  have e1 : b5 m c t (ix3 p (1 : Fin 4) k) = X4 m c (ix3 (0 : Fin 1) (1 : Fin 3) kk) := by
    rw [b5_at m c t p 1 k hlt, ← hkk]; exact V_12 m c p 1 ⟨512 * (t.val % 11) + k.val, hlt⟩
  have e2 : b5 m c t (ix3 p (2 : Fin 4) k) = X4 m c (ix3 (0 : Fin 1) (2 : Fin 3) kk) := by
    rw [b5_at m c t p 2 k hlt, ← hkk]; exact V_12 m c p 2 ⟨512 * (t.val % 11) + k.val, hlt⟩
  have e3 : b5 m c t (ix3 p (3 : Fin 4) k) = X5 m c (ix2 (0 : Fin 1) kk) := by
    rw [b5_at m c t p 3 k hlt, ← hkk]; exact V_12' m c p ⟨512 * (t.val % 11) + k.val, hlt⟩
  unfold conv convS
  rw [e0, e1, e2, e3,
    up_eq m c t i H hK p ⟨14 + r.val, by omega⟩ (by dsimp only; omega) k ⟨s.val, by omega⟩ (by dsimp only; omega) kk hk,
    up_eq m c t i H hK p ⟨15 + r.val, by omega⟩ (by dsimp only; omega) k ⟨s.val + 1, by omega⟩ (by dsimp only; omega) kk hk,
    up_eq m c t i H hK p ⟨16 + r.val, by omega⟩ (by dsimp only; omega) k ⟨s.val + 2, by omega⟩ (by dsimp only; omega) kk hk]

/-- No gate is minus infinity. -/
def Above (c : Dev nD) : Prop :=
  ∀ (b : Fin 4) (s : Fin 2048) (k : Fin 5632), convS (X0 m c) (X1 m c) (X2 m c) (X3 m c) (X4 m c) (X5 m c) b s (⟨5632 + k.val, by omega⟩ : Fin 11264) ≠ ⊥

/-- One element of the gated product. -/
theorem act_eq (c : Dev nD) (hA : Above m c) (t : Fin cfg0.N) (i : Fin 8) (H : Vec Ideal S1040x2048 .bf16) (hK : Kept m c i H)
    (r : Fin 1024) (k : Fin 512) (s : Fin 2048) (hs : s.val = 1024 * (i.val % 2) + r.val) (kk : Fin 5632) (hk : kk.val = 512 * (t.val % 11) + k.val) :
    act H (b4 m c t) (b5 m c t) r k = actS (X0 m c) (X1 m c) (X2 m c) (X3 m c) (X4 m c) (X5 m c) (⟨i.val / 2, by omega⟩ : Fin 4) s kk := by
  unfold act actS
  rw [conv_eq m c t i H hK 1 r k s hs ⟨5632 + kk.val, by omega⟩ (by rw [← hk]; rfl),
    conv_eq m c t i H hK 0 r k s hs ⟨kk.val, by omega⟩ (by rw [← hk]; show kk.val = 5632 * 0 + kk.val; omega)]
  exact congrArg (· * _) (Scalars.silu _ (hA _ s kk))

/-- A term of the down projection. -/
def term (c : Dev nD) (b : Fin 4) (s e : Fin 2048) (k : Fin 5632) : EReal :=
  actS (X0 m c) (X1 m c) (X2 m c) (X3 m c) (X4 m c) (X5 m c) b s k * X6 m c (ix3 (0 : Fin 1) k e)

/-- Block `l`'s share of the down projection for row `r` of tile `i`. -/
def share (c : Dev nD) (i : Fin 8) (r : Fin 1024) (e : Fin 2048) (l : ℕ) : EReal :=
  if h : l < 11 then ∑ k : Fin 512, term m c ⟨i.val / 2, by omega⟩ ⟨1024 * (i.val % 2) + r.val, by omega⟩ e ⟨512 * l + k.val, by omega⟩ else 0

/-- One half-block's sum. -/
theorem part_eq (c : Dev nD) (hA : Above m c) (t : Fin cfg0.N) (i : Fin 8) (H : Vec Ideal S1040x2048 .bf16) (hK : Kept m c i H)
    (kh : Fin 2) (r : Fin 1024) (e : Fin 2048) :
    part H (b4 m c t) (b5 m c t) (b6 m c t) kh r e = ∑ k : Fin 256, term m c ⟨i.val / 2, by omega⟩ ⟨1024 * (i.val % 2) + r.val, by omega⟩ e
      ⟨512 * (t.val % 11) + (256 * kh.val + k.val), by have : t.val % 11 < 11 := Nat.mod_lt _ (by decide)
                                                       omega⟩ := by
  have hj : t.val % 11 < 11 := Nat.mod_lt _ (by decide)
  unfold part term
  refine Finset.sum_congr rfl fun k _ => ?_
  rw [b6_at m c t ⟨256 * kh.val + k.val, by omega⟩ e (by dsimp only; omega), V_8,
    act_eq m c hA t i H hK r ⟨256 * kh.val + k.val, by omega⟩ ⟨1024 * (i.val % 2) + r.val, by omega⟩ rfl ⟨512 * (t.val % 11) + (256 * kh.val + k.val), by omega⟩ rfl]

/-- The two halves of a block. -/
theorem parts_eq (c : Dev nD) (hA : Above m c) (t : Fin cfg0.N) (i : Fin 8) (H : Vec Ideal S1040x2048 .bf16) (hK : Kept m c i H)
    (r : Fin 1024) (e : Fin 2048) :
    part H (b4 m c t) (b5 m c t) (b6 m c t) 0 r e + part H (b4 m c t) (b5 m c t) (b6 m c t) 1 r e = share m c i r e (t.val % 11) := by
  have hj : t.val % 11 < 11 := Nat.mod_lt _ (by decide)
  rw [part_eq m c hA t i H hK, part_eq m c hA t i H hK]
  unfold share
  rw [dif_pos hj, Fin.sum_univ_two_halves 256 256 rfl]
  refine congrArg₂ (· + ·) (Finset.sum_congr rfl fun k _ => congrArg (term m c _ _ e) (Fin.ext ?_)) (Finset.sum_congr rfl fun k _ => congrArg (term m c _ _ e) (Fin.ext ?_))
  · show 512 * (t.val % 11) + (256 * 0 + k.val) = 512 * (t.val % 11) + k.val
    omega
  · show 512 * (t.val % 11) + (256 * 1 + k.val) = 512 * (t.val % 11) + (256 + k.val)
    omega

/-- After the first point of a tile: the rows kept are the reference's, the block holds the first share. -/
theorem at_A (c : Dev nD) (hA : Above m c) (t : Fin cfg0.N) (h : t.val % 11 = 0) (i : Fin 8) (hi : t.val / 11 = i.val) :
    Kept m c i (outsAt0 m c t.val t.isLt).2 ∧ ∀ (r : Fin 1024) (e : Fin 2048), ((outsAt0 m c t.val t.isLt).1 (ix2 r e) : EReal) = share m c i r e (t.val % 11) := by
  have h1 := congrArg Prod.fst (outsAt0_A m c t h)
  have h2 := congrArg Prod.snd (outsAt0_A m c t h)
  dsimp only at h1 h2
  have hK : Kept m c i (sout0_A_0 m c t h) := fun q hq d => by
    rw [rows_at m c t h q hq d]
    exact congrArg₂ (fun a b => hpad _ _ _ a b d) (Fin.ext (by dsimp only; omega)) (Fin.ext (by dsimp only; omega))
  rw [h1, h2]
  refine ⟨hK, fun r e => ?_⟩
  rw [outA_at]
  exact parts_eq m c hA t i _ hK r e

/-- A middle point keeps the rows and adds its share. -/
theorem at_B (c : Dev nD) (hA : Above m c) (t : Fin cfg0.N) (h : t.val % 11 ≠ 0 ∧ t.val % 11 ≠ 10) (i : Fin 8)
    (p : Vec Ideal S1024x2048 .f32 × Vec Ideal S1040x2048 .bf16) (hp : outsAt0 m c (t.val - 1) (Nat.lt_of_le_of_lt (Nat.sub_le _ _) t.isLt) = p) (hK : Kept m c i p.2) :
    (outsAt0 m c t.val t.isLt).2 = p.2 ∧ ∀ (r : Fin 1024) (e : Fin 2048), ((outsAt0 m c t.val t.isLt).1 (ix2 r e) : EReal) = (p.1 (ix2 r e) : EReal) + share m c i r e (t.val % 11) := by
  subst hp
  have h1 := congrArg Prod.fst (outsAt0_B m c t h)
  have h2 := congrArg Prod.snd (outsAt0_B m c t h)
  dsimp only at h1 h2
  refine ⟨h2, fun r e => ?_⟩
  rw [h1, outB_at, add_assoc]
  exact congrArg (_ + ·) (parts_eq m c hA t i _ hK r e)

/-- What stands after each point of a tile but the last: the kept rows, and the blocks summed so far. -/
theorem acc (c : Dev nD) (hA : Above m c) (n : ℕ) : ∀ (hn : n < cfg0.N) (_ : n % 11 ≤ 9) (i : Fin 8) (_ : n / 11 = i.val),
    Kept m c i (outsAt0 m c n hn).2 ∧ ∀ (r : Fin 1024) (e : Fin 2048), ((outsAt0 m c n hn).1 (ix2 r e) : EReal) = ∑ l ∈ Finset.range (n % 11 + 1), share m c i r e l := by
  induction n with
  | zero =>
    intro hn _ i hi
    obtain ⟨hK, hv⟩ := at_A m c hA ⟨0, hn⟩ rfl i hi
    exact ⟨hK, fun r e => (hv r e).trans (Finset.sum_range_one _).symm⟩
  | succ n ih =>
    intro hn h9 i hi
    by_cases h0 : (n + 1) % 11 = 0
    · obtain ⟨hK, hv⟩ := at_A m c hA ⟨n + 1, hn⟩ h0 i hi
      refine ⟨hK, fun r e => (hv r e).trans ?_⟩
      show share m c i r e ((n + 1) % 11) = _
      rw [h0]
      exact (Finset.sum_range_one _).symm
    · obtain ⟨hK, hv⟩ := ih (by omega) (by omega) i (by omega)
      obtain ⟨h2, h1⟩ := at_B m c hA ⟨n + 1, hn⟩ ⟨h0, by dsimp only; omega⟩ i (outsAt0 m c n (by omega)) rfl hK
      have hm : (n + 1) % 11 = n % 11 + 1 := by omega
      refine ⟨fun q hq d => ?_, fun r e => ?_⟩
      · exact (congrFun h2 _).trans (hK q hq d)
      · refine (h1 r e).trans ?_
        show _ + share m c i r e ((n + 1) % 11) = _
        rw [hv r e, hm]
        exact (Finset.sum_range_succ _ _).symm

/-- All blocks together. -/
theorem shares (c : Dev nD) (i : Fin 8) (r : Fin 1024) (e : Fin 2048) :
    ∑ l ∈ Finset.range 11, share m c i r e l = ∑ k : Fin 5632, term m c ⟨i.val / 2, by omega⟩ ⟨1024 * (i.val % 2) + r.val, by omega⟩ e k := by
  rw [Finset.sum_range, Fin.sum_univ_tiles 11 512 rfl]
  refine Finset.sum_congr rfl fun l _ => ?_
  unfold share
  rw [dif_pos l.isLt]
  exact Finset.sum_congr rfl fun k _ => congrArg (term m c _ _ e) (Fin.ext (by dsimp only; omega))

/-- What the last point of a tile leaves. -/
theorem last_point (c : Dev nD) (hA : Above m c) (t : Fin cfg0.N) (h : t.val % 11 = 10) (r : Fin 1024) (e : Fin 2048) (n : Fin 8192) (hn : n.val = 1024 * (t.val / 11) + r.val) :
    ((outsAt0 m c t.val t.isLt).1 (ix2 r e) : EReal) = outS (X0 m c) (X1 m c) (X2 m c) (X3 m c) (X4 m c) (X5 m c) (X6 m c) n e := by
  have ht := t_lt t
  obtain ⟨i, hi⟩ : ∃ i : Fin 8, t.val / 11 = i.val := ⟨⟨t.val / 11, by omega⟩, rfl⟩
  have hb : n.val / 2048 = i.val / 2 := by omega
  have hs : n.val % 2048 = 1024 * (i.val % 2) + r.val := by omega
  obtain ⟨hK, hv⟩ := acc m c hA (t.val - 1) (Nat.lt_of_le_of_lt (Nat.sub_le _ _) t.isLt) (by omega) i (by omega)
  have hm : (t.val - 1) % 11 + 1 = 10 := by omega
  rw [outsAt0_C m c t h]
  dsimp only
  rw [outC_at, add_assoc]
  have hp := parts_eq m c hA t i _ hK r e
  rw [h] at hp
  rw [hm] at hv
  have hsum := (congrArg₂ (· + ·) (hv r e) hp).trans ((Finset.sum_range_succ _ _).symm.trans (shares m c i r e))
  unfold outS
  refine congrArg₂ (· + ·) ?_ (congrArg₂ (· * ·) ?_ ?_)
  · rw [b0_at m c t r e (by omega), V_0]
    refine congrArg (X0 m c) (congrArg₂ (fun a b => ix3 a b e) (Fin.ext ?_) (Fin.ext ?_))
    · dsimp only; omega
    · dsimp only; omega
  · rw [b2_at m c t 5 e (by omega), V_1]
    refine congrArg (X1 m c) (congrArg₂ (fun a b => ix2 a b) (Fin.ext ?_) (Fin.ext ?_))
    · dsimp only; omega
    · rfl
  · refine hsum.trans (Finset.sum_congr rfl fun k _ => ?_)
    unfold term
    exact congrArg₂ (fun a b => actS (X0 m c) (X1 m c) (X2 m c) (X3 m c) (X4 m c) (X5 m c) a b k * _) (Fin.ext hb.symm) (Fin.ext hs.symm)

/-- The row of the result on which row `y` of the block at point `t` lies. -/
theorem emb_eq (t : Fin cfg0.N) (y0 : Fin 1024) (y1 : Fin 2048) (h : 1024 * (t.val / 11) + y0.val < 8192) :
    ((View.whole main_v13).slice (win0_7.rect t)).emb (ix2 y0 y1) = (ix2 ⟨1024 * (t.val / 11) + y0.val, h⟩ y1 : S8192x2048.Idx) := by
  blk_ext [idx t]

/-- The result is written back at the last point of each tile. -/
theorem flush7 : ∀ t : Fin cfg0.N, (cfg0.win 7).flush t = true → t.val % 11 = 10 :=
  (by decide +kernel : ∀ t : Fin grid0.N, (cfg0.win 7).flush t = true → t.val % 11 = 10)

/-- The reference's result over the kernel's own arguments. -/
def ref (c : Dev nD) : FVec Ideal S8192x2048 .f32 :=
  Cert.Reference2Ideal.Read.val_main_v66 (F := Ideal) (X0 m c) (X1 m c) (X2 m c) (X3 m c) (X4 m c) (X5 m c) (X6 m c)

/-- THE RESULT ARRAY after the run is the reference's result. -/
theorem final (c : Dev nD) (hA : Above m c) : (dats m 0 c).arrAt 7 (cfgs 0).N = ref m c := by
  refine (dats m 0 c).arrAt_eq_of_covers 7 _ (by decide +kernel) fun t hf y => ?_
  have h10 := flush7 t hf
  blk_simp
  rw [after0_7]
  idx_vars y
  have ht := t_lt t
  have hr : 1024 * (t.val / 11) + y0.val < 8192 := by omega
  rw [emb_eq t y0 y1 hr]
  refine (last_point m c hA t h10 y0 y1 ⟨1024 * (t.val / 11) + y0.val, hr⟩ rfl).trans ?_
  exact (ref_at _ _ _ _ _ _ _ _ _).symm

end Cert.Ffn

end
-- ==== Proof.FfnClaim.lean ====
/-
  The feed-forward call and its reference run from the same arguments and end with the same result.
-/
module

public import proofs.«01_k».proof.Defs
public import proofs.«01_k».proof.Proof.FfnValue
public import proofs.«01_k».proof.Proof.Gen.Reference2Ideal.Run

@[expose] public section

set_option maxRecDepth 16384

noncomputable section

namespace Cert.Ffn

open Idealize.ShloMosaic Idealize.ShloMosaic.TcCoe Idealize.SL.Sem
open Cert.Kernel2Ideal Cert.Kernel2Ideal.Gen

/-- What the precondition's own function states of its shapes: the reference states the same. -/
theorem pre_facts : Cert.Pre_conv_gate_above.Facts where
  slices_S4x12288_S4x2048_0_0 := Cert.Reference2Ideal.Gen.slices_S4x12288_S4x2048_0_0
  slices_S4x12288_S4x2048_0_2048 := Cert.Reference2Ideal.Gen.slices_S4x12288_S4x2048_0_2048
  slices_S4x12288_S4x2048_0_4096 := Cert.Reference2Ideal.Gen.slices_S4x12288_S4x2048_0_4096
  slices_S4x12288_S4x2048_0_6144 := Cert.Reference2Ideal.Gen.slices_S4x12288_S4x2048_0_6144
  slices_S4x12288_S4x2048_0_8192 := Cert.Reference2Ideal.Gen.slices_S4x12288_S4x2048_0_8192
  slices_S4x12288_S4x2048_0_10240 := Cert.Reference2Ideal.Gen.slices_S4x12288_S4x2048_0_10240
  shapeCasts_S1x2048_S2048 := Cert.Reference2Ideal.Gen.shapeCasts_S1x2048_S2048
  reducesTo_S4x2048x2048_S4x2048_d2 := Cert.Reference2Ideal.Gen.reducesTo_S4x2048x2048_S4x2048_d2
  h_S_ := Cert.Reference2Ideal.Gen.h_S_
  bcast_S4x2048_S4x2048x1_0_1 := Cert.Reference2Ideal.Gen.bcast_S4x2048_S4x2048x1_0_1
  bcast_S_S4x2048x1 := Cert.Reference2Ideal.Gen.bcast_S_S4x2048x1
  bcast_S4x2048x1_S4x2048x2048_0_1_2 := Cert.Reference2Ideal.Gen.bcast_S4x2048x1_S4x2048x2048_0_1_2
  bcast_S2048_S1x1x2048_2 := Cert.Reference2Ideal.Gen.bcast_S2048_S1x1x2048_2
  bcast_S1x1x2048_S4x2048x2048_0_1_2 := Cert.Reference2Ideal.Gen.bcast_S1x1x2048_S4x2048x2048_0_1_2
  bcast_S4x2048_S4x1x2048_0_2 := Cert.Reference2Ideal.Gen.bcast_S4x2048_S4x1x2048_0_2
  bcast_S_S4x1x2048 := Cert.Reference2Ideal.Gen.bcast_S_S4x1x2048
  bcast_S4x1x2048_S4x2048x2048_0_1_2 := Cert.Reference2Ideal.Gen.bcast_S4x1x2048_S4x2048x2048_0_1_2
  shapeCasts_S1x2048x11264_S2048x11264 := Cert.Reference2Ideal.Gen.shapeCasts_S1x2048x11264_S2048x11264
  shapeCasts_S1x3x11264_S3x11264 := Cert.Reference2Ideal.Gen.shapeCasts_S1x3x11264_S3x11264
  shapeCasts_S1x11264_S11264 := Cert.Reference2Ideal.Gen.shapeCasts_S1x11264_S11264
  pads_S4x2048x11264_S4x2050x11264_000_200_000 := Cert.Reference2Ideal.Gen.pads_S4x2048x11264_S4x2050x11264_000_200_000
  slices_S4x2050x11264_S4x2048x11264_0_0_0 := Cert.Reference2Ideal.Gen.slices_S4x2050x11264_S4x2048x11264_0_0_0
  slices_S3x11264_S1x11264_0_0 := Cert.Reference2Ideal.Gen.slices_S3x11264_S1x11264_0_0
  bcast_S11264_S1x1x11264_2 := Cert.Reference2Ideal.Gen.bcast_S11264_S1x1x11264_2
  bcast_S1x1x11264_S4x2048x11264_0_1_2 := Cert.Reference2Ideal.Gen.bcast_S1x1x11264_S4x2048x11264_0_1_2
  slices_S4x2050x11264_S4x2048x11264_0_1_0 := Cert.Reference2Ideal.Gen.slices_S4x2050x11264_S4x2048x11264_0_1_0
  slices_S3x11264_S1x11264_1_0 := Cert.Reference2Ideal.Gen.slices_S3x11264_S1x11264_1_0
  slices_S4x2050x11264_S4x2048x11264_0_2_0 := Cert.Reference2Ideal.Gen.slices_S4x2050x11264_S4x2048x11264_0_2_0
  slices_S3x11264_S1x11264_2_0 := Cert.Reference2Ideal.Gen.slices_S3x11264_S1x11264_2_0
  slices_S4x2048x11264_S4x2048x5632_0_0_0 := Cert.Reference2Ideal.Gen.slices_S4x2048x11264_S4x2048x5632_0_0_0
  slices_S4x2048x11264_S4x2048x5632_0_0_5632 := Cert.Reference2Ideal.Gen.slices_S4x2048x11264_S4x2048x5632_0_0_5632
  bcast_S_S4x2048x5632 := Cert.Reference2Ideal.Gen.bcast_S_S4x2048x5632
  dot_S4x2048x2048_S2048x11264_S4x2048x11264_2_0_01_1_n_n_wf := Cert.Reference2Ideal.Gen.dot_S4x2048x2048_S2048x11264_S4x2048x11264_2_0_01_1_n_n_wf

attribute [local instance] pre_facts

variable (m : (ℓ : Loc nD τ sig) → Buf (Elt Ideal) ℓ)

set_option maxHeartbeats 2000000 in
/-- The precondition's function compares the reference's gate with minus infinity. -/
theorem pre_eq (x0 : FVec Ideal S4x2048x2048 .f32) (x1 : FVec Ideal S4x12288 .f32) (x2 : FVec Ideal S1x2048 .f32) (x3 : FVec Ideal S1x2048x11264 .f32)
    (x4 : FVec Ideal S1x3x11264 .f32) (x5 : FVec Ideal S1x11264 .f32) (x6 : FVec Ideal S1x5632x2048 .f32) :
    Cert.Pre_conv_gate_above.fn (F := Ideal) x0 x1 x2 x3 x4 x5 x6
      = cmpf .ogt (Cert.Reference2Ideal.Read.val_main_v57 (F := Ideal) x0 x1 x2 x3 x4 x5)
        (broadcastInDim Cert.Pre_conv_gate_above.S4x2048x5632 ![] Cert.Pre_conv_gate_above.Facts.bcast_S_S4x2048x5632 (constant (F := Ideal) Cert.Pre_conv_gate_above.S_ .f32 0xFF800000#32)) := by
  unfold Cert.Pre_conv_gate_above.fn Cert.Pre_conv_gate_above.fn_part1 Cert.Pre_conv_gate_above.fn_part2
  rfl

/-- No gate of the convolution is minus infinity, from the precondition. -/
theorem above (h : Cert.Pre_Kernel2Ideal_conv_gate_above m) (c : Dev nD) : Above m c := by
  intro b s k
  have hb := congrFun (h c) (ix3 b s k)
  rw [pre_eq] at hb
  have hv := v57_at (X0 m c) (X1 m c) (X2 m c) (X3 m c) (X4 m c) (X5 m c) b s k
  revert hb hv
  generalize Cert.Reference2Ideal.Read.val_main_v57 (F := Ideal) _ _ _ _ _ _ = W
  intro hb hv
  rw [← hv]
  revert hb
  pointwise []
  intro hb h0
  rw [h0] at hb
  have hlt : ¬ (Ideal.ofBits FTy.f32 0xFF800000#32 < (⊥ : EReal)) := not_lt_bot
  rw [decide_eq_false hlt] at hb
  exact absurd hb (by decide)

/-- After the run the result array is what the kernel's points wrote back, the arguments as they were. -/
theorem run_ffn (ρ : Dev nD → PrngReg) : θ_run defs (onTc (τ := τ) (main (F := Ideal))) ⟨m, fun _ => 0, ρ⟩ (fun r => ∀ c : Dev nD,
      r.2.mem ((c.tc : Thread nD τ).loc main_v13) = (dats m 0 c).arrAt 7 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.2 c).1 7, h.1 c⟩)
    (θ_run_and (frame_of m ρ (dats m) (A_eq m) (run_main m ρ)) (run_main m ρ))

/-- THE CLAIM: where no gate is minus infinity, both run and end with the same result, their arguments unchanged. -/
theorem holds : Cert.algebraic_Kernel2Ideal_Reference2Ideal_pre_conv_gate_above
    (hKernel2Ideal := Cert.Kernel2Ideal.Gen.facts) (hReference2Ideal := Cert.Reference2Ideal.Gen.facts) (hPre_conv_gate_above := pre_facts) := by
  intro m g m' g' hpre hagree
  refine ⟨fun c => ref m c, ?_, ?_⟩
  · refine (θ_run Cert.Kernel2Ideal.defs _ _).mono (fun r h c => ?_) (run_ffn m g)
    exact ⟨(h c).1.trans (final m c (above m hpre c)), (h c).2⟩
  · refine (θ_run Cert.Reference2Ideal.defs _ _).mono (fun r h c => ?_) (Cert.Reference2Ideal.Value.run m' g')
    obtain ⟨e0, e1, e2, e3, e4, e5, e6⟩ := hagree c
    refine ⟨?_, (h c).2⟩
    beta_reduce
    unfold ref
    refine (h c).1.trans ((Cert.Reference2Ideal.Read.val_main_v66_eq _ _).trans ?_)
    rw [e0, e1, e2, e3, e4, e5, e6]

end Cert.Ffn

end
-- ==== Proof.lean ====
/-
  The proof of `Cert.Claim`: the frames of every program, that each idealized program is its program's own text, and the
  value claims of the retention (Proof/RetClaim.lean), of the feed-forward block (Proof/FfnClaim.lean) and of the mixer
  (Proof/MixerClaim.lean). The feed-forward kernel's run is in Proof/FfnRunA.lean, FfnRunB.lean, FfnRunC.lean and FfnFrame.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.RetClaim
public import proofs.«01_k».proof.Proof.MixerClaim
public import proofs.«01_k».proof.Proof.FfnFrame
public import proofs.«01_k».proof.Proof.FfnBits
public import proofs.«01_k».proof.Proof.FfnClaim
public import Idealize.ShloMosaic.Adequacy
public import Idealize.ShloMosaic.Init

@[expose] public section

noncomputable section

namespace Cert.Proof

open Idealize.ShloMosaic Idealize.SL.Sem Cert.Kernel

/-- The reference of the retention runs, leaves its arguments as they were and every semaphore at zero (it has none). -/
theorem ref_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2.2.2, sem_eq_zero_of_no_sems (by decide) r.2⟩)
    (Cert.ReferenceIdeal.Value.run (F := Ideal) m ρ)

/-- The reference of the mixer runs, leaves its arguments as they were and every semaphore at zero (it has none). -/
theorem ref3_frame (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m ρ)

/-- The reference of the feed-forward block runs, leaves its arguments as they were and every semaphore at zero (it has none). -/
theorem ref2_frame (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m ρ)

/-- EVERYTHING CLAIMED. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Ret.pre_facts, Cert.Ffn.pre_facts,
    fun m ρ _ => Cert.Kernel.Gen.frame m ρ,
    fun m ρ _ => Cert.KernelIdeal.Gen.frame m ρ,
    fun m ρ _ => Cert.KernelIdeal.Gen.frame m ρ,
    fun m ρ _ => ref_frame m ρ,
    fun m ρ _ => ref_frame m ρ,
    Cert.FfnBits.frame,
    fun m ρ _ => Cert.Kernel2Ideal.Gen.frame_ffn m ρ,
    fun m ρ _ => Cert.Kernel2Ideal.Gen.frame_ffn m ρ,
    fun m ρ _ => ref2_frame m ρ,
    fun m ρ _ => ref2_frame m ρ,
    fun m ρ _ => Cert.Kernel3.Gen.frame m ρ,
    fun m ρ _ => Cert.Kernel3Ideal.Gen.frame m ρ,
    fun m ρ _ => ref3_frame m ρ,
    trivial, Cert.Ret.holds, trivial, Cert.Ffn.holds, trivial, Cert.Mixer.holds⟩

end Cert.Proof

end
